-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![1, 1024, 1024]⟩ ⟨3, ![1, 4096, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x8x128 .f32 := (extf .f32 · bitsLt_bf16_f32) main_arg2
  let main_v12 : FVec F S1x1024x8x128 .f32 := Host.absf main_v11
  let main_cst_2 : FVec F S_ .f32 := constant S_ .f32 0x7F800000#32
  let main_v13 : FVec F S1x1024x8x128 .f32 := broadcastInDim S1x1024x8x128 ![] bcast_S_S1x1024x8x128 main_cst_2
  let main_v14 : IVec S1x1024x8x128 1 := cmpf .olt main_v12 main_v13
  let main_c_3 : IVec S_ 1 := constantI S_ 1 1#1
  let main_v15 : IVec S_ 1 := (fun x v => Host.reduce IntOp.andi x v reducesTo_S1x1024x8x128_S_d0_1_2_3 h_S_) main_v14 main_c_3
  let main_v16 : IVec S_ 1 := andi main_v10 main_v15
  main_v16
-- ==== Pre_finite_scores_ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S_ : Shape := ⟨0, ![]⟩

class Facts : Prop where
  bitsLt_bf16_f32 : FTy.bits .bf16 < FTy.bits .f32
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x4096x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x4096x1024 .f32 := (extf .f32 · bitsLt_bf16_f32) main_arg0
  let main_v1 : FVec F S1x4096x1024 .f32 := Host.absf main_v0
  let main_cst : FVec F S_ .f32 := constant S_ .f32 0x7F800000#32
  let main_v2 : FVec F S1x4096x1024 .f32 := broadcastInDim S1x4096x1024 ![] bcast_S_S1x4096x1024 main_cst
  let main_v3 : IVec S1x4096x1024 1 := cmpf .olt main_v1 main_v2
  let main_c : IVec S_ 1 := constantI S_ 1 1#1
  let main_v4 : IVec S_ 1 := (fun x v => Host.reduce IntOp.andi x v reducesTo_S1x4096x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x4096x8x128 .f32 := (extf .f32 · bitsLt_bf16_f32) main_arg2
  let main_v12 : FVec F S1x4096x8x128 .f32 := Host.absf main_v11
  let main_cst_2 : FVec F S_ .f32 := constant S_ .f32 0x7F800000#32
  let main_v13 : FVec F S1x4096x8x128 .f32 := broadcastInDim S1x4096x8x128 ![] bcast_S_S1x4096x8x128 main_cst_2
  let main_v14 : IVec S1x4096x8x128 1 := cmpf .olt main_v12 main_v13
  let main_c_3 : IVec S_ 1 := constantI S_ 1 1#1
  let main_v15 : IVec S_ 1 := (fun x v => Host.reduce IntOp.andi x v reducesTo_S1x4096x8x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1280x1024 : Shape := ⟨2, ![1280, 1024]⟩
abbrev S4 : Shape := ⟨1, ![4]⟩
abbrev S2 : Shape := ⟨1, ![2]⟩
abbrev S_ : Shape := ⟨0, ![]⟩
abbrev S1 : Shape := ⟨1, ![1]⟩
abbrev S128x1024 : Shape := ⟨2, ![128, 1024]⟩
abbrev S256x512 : Shape := ⟨2, ![256, 512]⟩
abbrev S256x128 : Shape := ⟨2, ![256, 128]⟩
abbrev S512x128 : Shape := ⟨2, ![512, 128]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1280x1024, .bf16⟩
  | .local _ .vmem, ⟨7, _⟩ => ⟨S1280x1024, .bf16⟩
  | .local _ .vmem, ⟨8, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev barrier0 : Sem sig := 0

abbrev nD : Nat := 4
abbrev τ : Topo := Topo.v7x

variable {F : FTy → Type} [FloatOps F]

abbrev grid0 : Pipeline.Grid := .none

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

def k1_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k1_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k1_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v30 : BitVec 32 := Scalar.muli v13 c1_i32_21
  let v31 : BitVec 32 := Scalar.addi c0_i32_22 v30
  v31.toNat
def k1_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28 : BitVec 32 := 1#32
  let v38 : BitVec 32 := Scalar.muli v13 c1_i32_28
  let v39 : BitVec 32 := Scalar.addi c0_i32_29 v38
  v39.toNat
def k1_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v46 : BitVec 32 := Scalar.muli v24 c1_i32_36
  let v47 : BitVec 32 := Scalar.addi c0_i32_37 v46
  v47.toNat
def k1_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v54 : BitVec 32 := Scalar.muli v24 c1_i32_42
  let v55 : BitVec 32 := Scalar.addi c0_i32_43 v54
  v55.toNat
abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x8x4096x4096 : Shape := ⟨4, ![1, 8, 4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x1x4096x1 : Shape := ⟨4, ![1, 1, 4096, 1]⟩
abbrev S1x8x128x4096 : Shape := ⟨4, ![1, 8, 128, 4096]⟩

abbrev nBuf : Space → Nat
  | .hbm => 63
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x4096x1024, .f32⟩
  | .hbm, ⟨6, _⟩ => ⟨S1024x1024, .f32⟩
  | .hbm, ⟨7, _⟩ => ⟨S1x4096x8x128, .f32⟩
  | .hbm, ⟨8, _⟩ => ⟨S1x4096x8x128, .f32⟩
  | .hbm, ⟨9, _⟩ => ⟨S1024x1024, .f32⟩
  | .hbm, ⟨10, _⟩ => ⟨S1x4096x1024, .f32⟩
  | .hbm, ⟨11, _⟩ => ⟨S1x4096x8x128, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S1x8x4096x4096, .f32⟩
  | .hbm, ⟨24, _⟩ => ⟨S_, .f32⟩
  | .hbm, ⟨25, _⟩ => ⟨S1x8x4096x4096, .f32⟩
  | .hbm, ⟨26, _⟩ => ⟨S1x8x4096x4096, .f32⟩
  | .hbm, ⟨27, _⟩ => ⟨S1x1x4096x4096, .i1⟩
  | .hbm, ⟨28, _⟩ => ⟨S_, .f32⟩
  | .hbm, ⟨29, _⟩ => ⟨S_, .f32⟩
  | .hbm, ⟨30, _⟩ => ⟨S1x8x4096x4096, .i1⟩
  | .hbm, ⟨31, _⟩ => ⟨S1x8x4096x4096, .f32⟩
  | .hbm, ⟨32, _⟩ => ⟨S1x8x4096x4096, .f32⟩
  | .hbm, ⟨33, _⟩ => ⟨S_, .f32⟩
  | .hbm, ⟨34, _⟩ => ⟨S1x8x4096, .f32⟩
  | .hbm, ⟨35, _⟩ => ⟨S1x8x4096x1, .f32⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S_, .i1⟩
  | .hbm, ⟨40, _⟩ => ⟨S4096, .i1⟩
  | .hbm, ⟨41, _⟩ => ⟨S1x1x4096x1, .i1⟩
  | .hbm, ⟨42, _⟩ => ⟨S_, .f32⟩
  | .hbm, ⟨43, _⟩ => ⟨S1x8x4096, .f32⟩
  | .hbm, ⟨44, _⟩ => ⟨S1x8x4096x1, .f32⟩
  | .hbm, ⟨45, _⟩ => ⟨S_, .f32⟩
  | .hbm, ⟨46, _⟩ => ⟨S_, .f32⟩
  | .hbm, ⟨47, _⟩ => ⟨S1x8x4096x1, .i1⟩
  | .hbm, ⟨48, _⟩ => ⟨S1x8x4096x1, .f32⟩
  | .hbm, ⟨49, _⟩ => ⟨S1x8x4096x1, .f32⟩
  | .hbm, ⟨50, _⟩ => ⟨S1x8x4096x4096, .f32⟩
  | .hbm, ⟨51, _⟩ => ⟨S1x8x4096x4096, .f32⟩
  | .hbm, ⟨52, _⟩ => ⟨S1x1x4096x1, .i1⟩
  | .hbm, ⟨53, _⟩ => ⟨S_, .f32⟩
  | .hbm, ⟨54, _⟩ => ⟨S_, .f32⟩
  | .hbm, ⟨55, _⟩ => ⟨S1x8x4096x4096, .i1⟩
  | .hbm, ⟨56, _⟩ => ⟨S1x8x4096x4096, .f32⟩
  | .hbm, ⟨57, _⟩ => ⟨S1x8x4096x4096, .f32⟩
  | .hbm, ⟨58, _⟩ => ⟨S1x8x128x4096, .f32⟩
  | .hbm, ⟨59, _⟩ => ⟨S1x4096x8x128, .f32⟩
  | .hbm, ⟨60, _⟩ => ⟨S1x4096x1024, .f32⟩
  | .hbm, ⟨61, _⟩ => ⟨S1x4096x1024, .f32⟩
  | .hbm, ⟨62, _⟩ => ⟨S1x4096x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Cells.lean ====
/-
  The halo exchange's places: the ring of four devices, the semaphores, the views its copies read and write, and what the
  extended key and value arrays hold once every copy has landed.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Pointwise.Index

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ring -/

set_option backward.proofsInPublic true in
/-- The device before. -/
def lft (c : Dev nD) : Dev nD := ⟨(c.val + 3) % 4, Nat.mod_lt _ (by decide)⟩
set_option backward.proofsInPublic true in
/-- The device after. -/
def rgt (c : Dev nD) : Dev nD := ⟨(c.val + 1) % 4, Nat.mod_lt _ (by decide)⟩

theorem lft_rgt (c : Dev nD) : lft (rgt c) = c := by revert c; decide
theorem rgt_lft (c : Dev nD) : rgt (lft c) = c := by revert c; decide
def ringL : Dev nD ≃ Dev nD := ⟨lft, rgt, rgt_lft, lft_rgt⟩
def ringR : Dev nD ≃ Dev nD := ⟨rgt, lft, lft_rgt, rgt_lft⟩

theorem dev1 (c : Dev nD) : (⟨k1_dev1 c, k1_dev1_lt c⟩ : Dev nD) = lft c := by revert c; decide +kernel
theorem dev2 (c : Dev nD) : (⟨k1_dev2 c, k1_dev2_lt c⟩ : Dev nD) = rgt c := by revert c; decide +kernel
theorem dev3 (c : Dev nD) : (⟨k1_dev3 c, k1_dev3_lt c⟩ : Dev nD) = lft c := by revert c; decide +kernel
theorem dev4 (c : Dev nD) : (⟨k1_dev4 c, k1_dev4_lt c⟩ : Dev nD) = lft c := by revert c; decide +kernel
theorem dev5 (c : Dev nD) : (⟨k1_dev5 c, k1_dev5_lt c⟩ : Dev nD) = rgt c := by revert c; decide +kernel
theorem dev6 (c : Dev nD) : (⟨k1_dev6 c, k1_dev6_lt c⟩ : Dev nD) = rgt c := by revert c; decide +kernel

/-! ## The views -/

abbrev rTop : Rect S1024x1024 := Rect.unit (s := S1024x1024) ![0, 0] S128x1024.size inb_S1024x1024_S128x1024_0_0
abbrev rBot : Rect S1024x1024 := Rect.unit (s := S1024x1024) ![896, 0] S128x1024.size inb_S1024x1024_S128x1024_896_0
abbrev rLo : Rect S1280x1024 := Rect.unit (s := S1280x1024) ![0, 0] S128x1024.size inb_S1280x1024_S128x1024_0_0
abbrev rMid : Rect S1280x1024 := Rect.unit (s := S1280x1024) ![128, 0] S1024x1024.size inb_S1280x1024_S1024x1024_128_0
abbrev rHi : Rect S1280x1024 := Rect.unit (s := S1280x1024) ![1152, 0] S128x1024.size inb_S1280x1024_S128x1024_1152_0

abbrev kM : Memref sig .tc .hbm S1024x1024 .bf16 := Memref.whole main_v2
abbrev vM : Memref sig .tc .hbm S1024x1024 .bf16 := Memref.whole main_v3
abbrev kfM : Memref sig .tc .vmem S1280x1024 .bf16 := Memref.whole cc1_scratch0
abbrev vfM : Memref sig .tc .vmem S1280x1024 .bf16 := Memref.whole cc1_scratch1

abbrev kTopM : Memref sig .tc .hbm S128x1024 .bf16 := kM.slice rTop (fun _ => rfl)
abbrev kBotM : Memref sig .tc .hbm S128x1024 .bf16 := kM.slice rBot (fun _ => rfl)
abbrev vTopM : Memref sig .tc .hbm S128x1024 .bf16 := vM.slice rTop (fun _ => rfl)
abbrev vBotM : Memref sig .tc .hbm S128x1024 .bf16 := vM.slice rBot (fun _ => rfl)
abbrev kLoM : Memref sig .tc .vmem S128x1024 .bf16 := kfM.slice rLo (fun _ => rfl)
abbrev kMidM : Memref sig .tc .vmem S1024x1024 .bf16 := kfM.slice rMid (fun _ => rfl)
abbrev kHiM : Memref sig .tc .vmem S128x1024 .bf16 := kfM.slice rHi (fun _ => rfl)
abbrev vLoM : Memref sig .tc .vmem S128x1024 .bf16 := vfM.slice rLo (fun _ => rfl)
abbrev vMidM : Memref sig .tc .vmem S1024x1024 .bf16 := vfM.slice rMid (fun _ => rfl)
abbrev vHiM : Memref sig .tc .vmem S128x1024 .bf16 := vfM.slice rHi (fun _ => rfl)

/-- What a copy of 128 rows credits, and a copy of 1024. -/
abbrev N : ℕ := (kHiM : Memref sig .tc .vmem S128x1024 .bf16).view.dmaCredit
abbrev M : ℕ := (kMidM : Memref sig .tc .vmem S1024x1024 .bf16).view.dmaCredit
theorem N_pos : 0 < N := View.dmaCredit_pos _ (by decide)
theorem M_pos : 0 < M := View.dmaCredit_pos _ (by decide)

/-! ## The semaphores -/

abbrev barS : Sem sig := sig.barrier 0 rfl
abbrev dsem (n : ℕ) (h : n < 16 := by decide) : DmaSem sig := ⟨n, h⟩

theorem bar_sem : (SemArray.scalar (sig.barrier 0 rfl) : Sems sig S_).sem = barS := rfl
theorem send_sem0 : ((cc1_scratch3.slice (Rect.unit (s := S4) ![0] S1.size inb_S4_S1_0)).squeeze S_ squeezes_S1_S_ : DmaSems sig S_).sem = dsem 6 := by decide
theorem send_sem1 : ((cc1_scratch3.slice (Rect.unit (s := S4) ![1] S1.size inb_S4_S1_1)).squeeze S_ squeezes_S1_S_ : DmaSems sig S_).sem = dsem 7 := by decide
theorem send_sem2 : ((cc1_scratch3.slice (Rect.unit (s := S4) ![2] S1.size inb_S4_S1_2)).squeeze S_ squeezes_S1_S_ : DmaSems sig S_).sem = dsem 8 := by decide
theorem send_sem3 : ((cc1_scratch3.slice (Rect.unit (s := S4) ![3] S1.size inb_S4_S1_3)).squeeze S_ squeezes_S1_S_ : DmaSems sig S_).sem = dsem 9 := by decide
theorem recv_sem0 : ((cc1_scratch4.slice (Rect.unit (s := S4) ![0] S1.size inb_S4_S1_0)).squeeze S_ squeezes_S1_S_ : DmaSems sig S_).sem = dsem 10 := by decide
theorem recv_sem1 : ((cc1_scratch4.slice (Rect.unit (s := S4) ![1] S1.size inb_S4_S1_1)).squeeze S_ squeezes_S1_S_ : DmaSems sig S_).sem = dsem 11 := by decide
theorem recv_sem2 : ((cc1_scratch4.slice (Rect.unit (s := S4) ![2] S1.size inb_S4_S1_2)).squeeze S_ squeezes_S1_S_ : DmaSems sig S_).sem = dsem 12 := by decide
theorem recv_sem3 : ((cc1_scratch4.slice (Rect.unit (s := S4) ![3] S1.size inb_S4_S1_3)).squeeze S_ squeezes_S1_S_ : DmaSems sig S_).sem = dsem 13 := by decide
theorem copy_sem0 : ((cc1_scratch5.slice (Rect.unit (s := S2) ![0] S1.size inb_S2_S1_0)).squeeze S_ squeezes_S1_S_ : DmaSems sig S_).sem = dsem 14 := by decide
theorem copy_sem1 : ((cc1_scratch5.slice (Rect.unit (s := S2) ![1] S1.size inb_S2_S1_1)).squeeze S_ squeezes_S1_S_ : DmaSems sig S_).sem = dsem 15 := by decide

/-! ## What the extended arrays hold -/

set_option backward.proofsInPublic true in
/-- 1280 rows: the last 128 of `l`, all of `m`, the first 128 of `r`. -/
def ext {α : Type} (l m r : S1024x1024.Idx → α) (i : S1280x1024.Idx) : α :=
  if h : (i 0).val < 128 then l (ix2 (n0 := 1024) (n1 := 1024) ⟨(i 0).val + 896, by omega⟩ (i 1))
  else if h2 : (i 0).val < 1152 then m (ix2 (n0 := 1024) (n1 := 1024) ⟨(i 0).val - 128, by omega⟩ (i 1))
  else r (ix2 (n0 := 1024) (n1 := 1024) ⟨(i 0).val - 1152, by have h3 : (i 0).val < 1280 := (i 0).isLt; omega⟩ (i 1))

/-- Every device's array, extended by its neighbours' rows. -/
def full {α : Type} (A : Dev nD → S1024x1024.Idx → α) (c : Dev nD) : S1280x1024.Idx → α := ext (A (lft c)) (A c) (A (rgt c))

theorem ext_lo {α : Type} (l m r : S1024x1024.Idx → α) (i : S1280x1024.Idx) (j : S1024x1024.Idx)
    (h0 : (j 0).val = (i 0).val + 896) (h1 : (j 1).val = (i 1).val) : ext l m r i = l j := by
  have hj : (j 0).val < 1024 := (j 0).isLt
  unfold ext
  rw [dif_pos (by omega)]
  refine congrArg l (funext fun a => Fin.ext ?_)
  match a with
  | ⟨0, _⟩ => exact (h0.symm)
  | ⟨1, _⟩ => exact h1.symm

theorem ext_mid {α : Type} (l m r : S1024x1024.Idx → α) (i : S1280x1024.Idx) (j : S1024x1024.Idx)
    (h0 : (i 0).val = (j 0).val + 128) (h1 : (j 1).val = (i 1).val) : ext l m r i = m j := by
  have hj : (j 0).val < 1024 := (j 0).isLt
  unfold ext
  rw [dif_neg (by omega), dif_pos (by omega)]
  refine congrArg m (funext fun a => Fin.ext ?_)
  match a with
  | ⟨0, _⟩ => exact (by show (i 0).val - 128 = (j 0).val; omega)
  | ⟨1, _⟩ => exact h1.symm

theorem ext_hi {α : Type} (l m r : S1024x1024.Idx → α) (i : S1280x1024.Idx) (j : S1024x1024.Idx)
    (h0 : (i 0).val = (j 0).val + 1152) (h1 : (j 1).val = (i 1).val) : ext l m r i = r j := by
  have hj : (j 0).val < 1024 := (j 0).isLt
  unfold ext
  rw [dif_neg (by omega), dif_neg (by omega)]
  refine congrArg r (funext fun a => Fin.ext ?_)
  match a with
  | ⟨0, _⟩ => exact (by show (i 0).val - 1152 = (j 0).val; omega)
  | ⟨1, _⟩ => exact h1.symm

end Cert.KernelIdeal.Halo
-- ==== Proof.Schedule.lean ====
/-
  The halo exchange's schedule: which semaphore each device raises, by how much, and what each raise hands over.
-/
module

public import proofs.«01_k».proof.Proof.Cells

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The two copies of the rounds algebra: the pipelines', and the exchange's (two duties a round). -/
abbrev UU : Type := UR sig nD τ × URounds (GSem nD τ sig) (Fin 2)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

/-- Every device's keys (or values): 1024 rows. -/
abbrev Rows (F : FTy → Type) : Type := Dev nD → S1024x1024.Idx → Elt F .bf16

/-! ## Cells and points-tos -/

abbrev barCell (c : Dev nD) : GSem nD τ sig := ((c : Thread nD τ), .reg barS)
abbrev dmaCell (c : Dev nD) (n : ℕ) (h : n < 16 := by decide) : GSem nD τ sig := ((c : Thread nD τ), .dma (dsem n h))

/-- The elements a view of device `c` names, at share `q` and contents `f`. -/
abbrev pv (c : Dev nD) {sp : Space} {s : Shape} {e : EltTy} (V : Memref sig .tc sp s e) (q : PosShare TreeShare)
    (f : Buf (Elt F) (V.view.loc (c : Thread nD τ))) : sProp 𝕄 :=
  V.view.loc (c : Thread nD τ) ↦[V.view.set]{q} f

section Contents
variable (kv vv : Rows F) (c : Dev nD)

theorem landed_kHi (fd : Buf (Elt F) (kHiM.view.loc (lft c : Thread nD τ))) :
    ∀ i ∈ kHiM.view.set, kHiM.view.write (Elt F) fd (kTopM.view.read (Elt F) (kv c)) Finset.univ i = full kv (lft c) i := by
  intro i hi
  obtain ⟨x, -, rfl⟩ := Finset.mem_map.mp hi
  refine (View.write_emb_of_mem _ _ (Finset.mem_univ x)).trans ?_
  unfold full
  rw [rgt_lft]
  refine (ext_hi _ _ _ _ (kTopM.view.emb x) ?_ ?_).symm
  · show (1152 + 1 * (x 0).val) = (0 + 1 * (x 0).val) + 1152; omega
  · rfl

theorem landed_vHi (fd : Buf (Elt F) (vHiM.view.loc (lft c : Thread nD τ))) :
    ∀ i ∈ vHiM.view.set, vHiM.view.write (Elt F) fd (vTopM.view.read (Elt F) (vv c)) Finset.univ i = full vv (lft c) i := by
  intro i hi
  obtain ⟨x, -, rfl⟩ := Finset.mem_map.mp hi
  refine (View.write_emb_of_mem _ _ (Finset.mem_univ x)).trans ?_
  unfold full
  rw [rgt_lft]
  refine (ext_hi _ _ _ _ (vTopM.view.emb x) ?_ ?_).symm
  · show (1152 + 1 * (x 0).val) = (0 + 1 * (x 0).val) + 1152; omega
  · rfl

theorem landed_kLo (fd : Buf (Elt F) (kLoM.view.loc (rgt c : Thread nD τ))) :
    ∀ i ∈ kLoM.view.set, kLoM.view.write (Elt F) fd (kBotM.view.read (Elt F) (kv c)) Finset.univ i = full kv (rgt c) i := by
  intro i hi
  obtain ⟨x, -, rfl⟩ := Finset.mem_map.mp hi
  refine (View.write_emb_of_mem _ _ (Finset.mem_univ x)).trans ?_
  unfold full
  rw [lft_rgt]
  refine (ext_lo _ _ _ _ (kBotM.view.emb x) ?_ ?_).symm
  · show (896 + 1 * (x 0).val) = (0 + 1 * (x 0).val) + 896; omega
  · rfl

theorem landed_vLo (fd : Buf (Elt F) (vLoM.view.loc (rgt c : Thread nD τ))) :
    ∀ i ∈ vLoM.view.set, vLoM.view.write (Elt F) fd (vBotM.view.read (Elt F) (vv c)) Finset.univ i = full vv (rgt c) i := by
  intro i hi
  obtain ⟨x, -, rfl⟩ := Finset.mem_map.mp hi
  refine (View.write_emb_of_mem _ _ (Finset.mem_univ x)).trans ?_
  unfold full
  rw [lft_rgt]
  refine (ext_lo _ _ _ _ (vBotM.view.emb x) ?_ ?_).symm
  · show (896 + 1 * (x 0).val) = (0 + 1 * (x 0).val) + 896; omega
  · rfl

theorem copied_kMid (fd : Buf (Elt F) (kMidM.view.loc (c : Thread nD τ))) :
    ∀ i ∈ kMidM.view.set, kMidM.view.write (Elt F) fd (kM.view.read (Elt F) (kv c)) Finset.univ i = full kv c i := by
  intro i hi
  obtain ⟨x, -, rfl⟩ := Finset.mem_map.mp hi
  refine (View.write_emb_of_mem _ _ (Finset.mem_univ x)).trans ?_
  refine (ext_mid _ _ _ _ (kM.view.emb x) ?_ ?_).symm
  · show (128 + 1 * (x 0).val) = (x 0).val + 128; omega
  · show (x 1).val = 0 + 1 * (x 1).val; omega

theorem copied_vMid (fd : Buf (Elt F) (vMidM.view.loc (c : Thread nD τ))) :
    ∀ i ∈ vMidM.view.set, vMidM.view.write (Elt F) fd (vM.view.read (Elt F) (vv c)) Finset.univ i = full vv c i := by
  intro i hi
  obtain ⟨x, -, rfl⟩ := Finset.mem_map.mp hi
  refine (View.write_emb_of_mem _ _ (Finset.mem_univ x)).trans ?_
  refine (ext_mid _ _ _ _ (vM.view.emb x) ?_ ?_).symm
  · show (128 + 1 * (x 0).val) = (x 0).val + 128; omega
  · show (x 1).val = 0 + 1 * (x 1).val; omega

end Contents

/-! ## The schedule -/

variable (kv vv : Rows F)

/-- What comes with a raise of DMA semaphore `n` of device `c`: the source rows back (the senders'), the rows that landed
    (the receivers'), both (the local copies'). -/
def dmaPay (c : Dev nD) : ℕ → sProp 𝕄
  | 6 => pv c kTopM fullShare.right (kv c)
  | 7 => pv c vTopM fullShare.right (vv c)
  | 8 => pv c kBotM fullShare.right (kv c)
  | 9 => pv c vBotM fullShare.right (vv c)
  | 10 => pv c kHiM fullShare (full kv c)
  | 11 => pv c vHiM fullShare (full vv c)
  | 12 => pv c kLoM fullShare (full kv c)
  | 13 => pv c vLoM fullShare (full vv c)
  | 14 => iprop(pv c kMidM fullShare (full kv c) ∗ pv c kM fullShare.left (kv c))
  | 15 => iprop(pv c vMidM fullShare (full vv c) ∗ pv c vM fullShare.left (vv c))
  | _ => iprop(emp)

/-- What comes with the two raises of device `c`'s barrier semaphore: from the device after it (duty 0), that device's first
    128 extended rows to write and that its two cells for them are open; from the device before it (duty 1), its last 128. -/
def barPay (c : Dev nD) : Fin 2 → sProp 𝕄
  | 0 => iprop((∃ f, pv (rgt c) kLoM fullShare f) ∗ (∃ f, pv (rgt c) vLoM fullShare f)
      ∗ reached ER (dmaCell (rgt c) 12) 0 ∗ reached ER (dmaCell (rgt c) 13) 0)
  | 1 => iprop((∃ f, pv (lft c) kHiM fullShare f) ∗ (∃ f, pv (lft c) vHiM fullShare f)
      ∗ reached ER (dmaCell (lft c) 10) 0 ∗ reached ER (dmaCell (lft c) 11) 0)

def dutiesOf : SemLoc sig → Finset (Fin 2)
  | .reg _ => {0, 1}
  | .dma s => if 6 ≤ s.val then {0} else ∅

def amountOf : SemLoc sig → ℕ
  | .reg _ => 1
  | .dma s => if s.val < 14 then N else M

theorem amountOf_pos (s : SemLoc sig) : 0 < amountOf s := by
  cases s with
  | reg _ => exact Nat.one_pos
  | dma s =>
    unfold amountOf
    dsimp only
    split
    · exact N_pos
    · exact M_pos

def payOf (c : Dev nD) (s : SemLoc sig) (d : Fin 2) : sProp 𝕄 :=
  match s with
  | .reg _ => barPay c d
  | .dma s => dmaPay kv vv c s.val

/-- One round: two duties on every barrier cell, one on every cell of the exchange. -/
def haloRd : Rounds.Schedule (GSem nD τ sig) (Fin 2) 𝕄 where
  duties g r := if r = 0 ∧ g.1.2 = .tc then dutiesOf g.2 else ∅
  unitless _ := False
  amount g _ _ := amountOf g.2
  payload g _ d := payOf kv vv g.1.1 g.2 d
  amount_pos g _ _ _ := amountOf_pos g.2

instance dmaPay_storable (c : Dev nD) (n : ℕ) : BI.Storable (upEmb : UEmb _ 𝕄) (dmaPay kv vv c n) := by
  unfold dmaPay; split <;> infer_instance

set_option synthInstance.maxHeartbeats 400000 in
instance barPay_storable (c : Dev nD) (d : Fin 2) : BI.Storable (upEmb : UEmb _ 𝕄) (barPay c d : sProp 𝕄) := by
  unfold barPay; split <;> infer_instance

instance haloRd_payload_storable (g : GSem nD τ sig) (r : ℕ) (d : Fin 2) :
    BI.Storable (upEmb : UEmb _ 𝕄) ((haloRd kv vv).payload g r d) := by
  show BI.Storable upEmb (payOf kv vv g.1.1 g.2 d)
  unfold payOf; split <;> infer_instance

section Sched
variable (c : Dev nD)

theorem duties_bar : (haloRd kv vv).duties (barCell c) 0 = {0, 1} := by dsimp only [haloRd]; exact if_pos ⟨rfl, rfl⟩
theorem duties_dma (n : ℕ) (h : n < 16) (h6 : 6 ≤ n) : (haloRd kv vv).duties (dmaCell c n h) 0 = {0} := by
  dsimp only [haloRd]; rw [if_pos ⟨rfl, rfl⟩]; exact if_pos h6
theorem mem_dma (n : ℕ) (h : n < 16) (h6 : 6 ≤ n) : (0 : Fin 2) ∈ (haloRd kv vv).duties (dmaCell c n h) 0 := by
  rw [duties_dma kv vv c n h h6]; exact Finset.mem_singleton_self _
theorem mem_bar (d : Fin 2) : d ∈ (haloRd kv vv).duties (barCell c) 0 := by
  rw [duties_bar]; revert d; decide
theorem duties_later (g : GSem nD τ sig) : ∀ r, 1 ≤ r → (haloRd kv vv).duties g r = ∅ :=
  fun r hr => by dsimp only [haloRd]; rw [if_neg (fun h => by omega)]

theorem amount_bar (d : Fin 2) : (haloRd kv vv).amount (barCell c) 0 d = 1 := rfl
theorem amount_N (n : ℕ) (h : n < 16) (hn : n < 14) (d : Fin 2) : (haloRd kv vv).amount (dmaCell c n h) 0 d = N := by
  show (if n < 14 then N else M) = N
  exact if_pos hn
theorem amount_M (n : ℕ) (h : n < 16) (hn : ¬ n < 14) (d : Fin 2) : (haloRd kv vv).amount (dmaCell c n h) 0 d = M := by
  show (if n < 14 then N else M) = M
  exact if_neg hn

theorem expect_bar : (haloRd kv vv).expect (barCell c) 0 = 2 := by
  unfold Schedule.expect Schedule.amountOf
  rw [duties_bar, Finset.sum_insert (by decide), Finset.sum_singleton, amount_bar, amount_bar]
theorem expect_N (n : ℕ) (h : n < 16) (h6 : 6 ≤ n) (hn : n < 14) : (haloRd kv vv).expect (dmaCell c n h) 0 = N := by
  unfold Schedule.expect Schedule.amountOf
  rw [duties_dma kv vv c n h h6, Finset.sum_singleton, amount_N kv vv c n h hn]
theorem expect_M (n : ℕ) (h : n < 16) (hn : ¬ n < 14) : (haloRd kv vv).expect (dmaCell c n h) 0 = M := by
  unfold Schedule.expect Schedule.amountOf
  rw [duties_dma kv vv c n h (by omega), Finset.sum_singleton, amount_M kv vv c n h hn]

theorem payload_bar (d : Fin 2) : (haloRd kv vv).payload (barCell c) 0 d = barPay c d := rfl
theorem payload_dma (n : ℕ) (h : n < 16) (d : Fin 2) : (haloRd kv vv).payload (dmaCell c n h) 0 d = dmaPay kv vv c n := rfl

theorem rest_bar : bigSep ((haloRd kv vv).duties (barCell c) 0 \ ∅) (fun d => (haloRd kv vv).payload (barCell c) 0 d)
    = (iprop(barPay c 0 ∗ barPay c 1) : sProp 𝕄) := by
  rw [Finset.sdiff_empty, duties_bar, bigSep_insert (by decide), bigSep_singleton]; rfl
theorem rest_dma (n : ℕ) (h : n < 16) (h6 : 6 ≤ n) :
    bigSep ((haloRd kv vv).duties (dmaCell c n h) 0 \ ∅) (fun d => (haloRd kv vv).payload (dmaCell c n h) 0 d) = dmaPay kv vv c n := by
  rw [Finset.sdiff_empty, duties_dma kv vv c n h h6, bigSep_singleton]; rfl

end Sched

/-! ## What each device owes at launch; the levels -/

/-- What a device still owes once it has raised its neighbours' barriers: the credits of its four copies to them. -/
def O₁ (c : Dev nD) : CellTallies nD τ sig Unit :=
  tallyAt (dmaCell (rgt c) 13) () N + tallyAt (dmaCell (rgt c) 12) () N + tallyAt (dmaCell (lft c) 11) () N
    + tallyAt (dmaCell (lft c) 10) () N
def O₀ (c : Dev nD) : CellTallies nD τ sig Unit := O₁ c + tallyAt (barCell (rgt c)) () 1 + tallyAt (barCell (lft c)) () 1

def L (g : GSem nD τ sig) : Finset Unit := if g.1.2 = .tc then {()} else ∅
def lvOf : SemLoc sig → ℕ
  | .reg _ => 1
  | .dma s => if 10 ≤ s.val ∧ s.val < 14 then 2 else 0
/-- Barrier cells at 1, the cells of what lands at 2, the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g' () n g u) : g = g' := by
  rw [tallyAt_apply] at h
  by_cases hg : g = g' ∧ u = ()
  · exact hg.1
  · rw [if_neg hg] at h; exact absurd h (Nat.lt_irrefl 0)

theorem O₁_pos (c : Dev nD) {g : GSem nD τ sig} {u : Unit} (h : 0 < O₁ c g u) :
    (g = dmaCell (rgt c) 13 ∨ g = dmaCell (rgt c) 12) ∨ g = dmaCell (lft c) 11 ∨ g = dmaCell (lft c) 10 := by
  unfold O₁ at h
  simp only [Finsupp.add_apply, Pi.add_apply] at h
  by_contra hn
  push Not at hn
  obtain ⟨⟨h1, h2⟩, h3, h4⟩ := hn
  have e1 : ¬ 0 < tallyAt (dmaCell (rgt c) 13) () N g u := fun h => h1 (tally_pos h)
  have e2 : ¬ 0 < tallyAt (dmaCell (rgt c) 12) () N g u := fun h => h2 (tally_pos h)
  have e3 : ¬ 0 < tallyAt (dmaCell (lft c) 11) () N g u := fun h => h3 (tally_pos h)
  have e4 : ¬ 0 < tallyAt (dmaCell (lft c) 10) () N g u := fun h => h4 (tally_pos h)
  omega

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      rcases O₁_pos c hg with (rfl | rfl) | rfl | rfl <;> (rw [L_tc]; exact Finset.mem_singleton_self _))
    (fun p hp => by rw [Finset.mem_singleton.mp hp]; exact Nat.le_refl 1)
    (fun g u hg => by
      rcases O₁_pos c hg with (rfl | rfl) | rfl | rfl <;> exact (by decide : 1 < 2))

/-! ## The launch's cells and what a device carries from it -/

abbrev osem (k : Fin 10) : SemLoc sig := .dma (dsem (6 + k.val) (by omega))
theorem osem_inj : Function.Injective osem := by decide
theorem osem_ne_bar : ∀ k : Fin 10, osem k ≠ .reg barS := by decide

def barEmb : Dev nD ↪ GSem nD τ sig := ⟨fun c => barCell c, fun _ _ h => congrArg (fun g : GSem nD τ sig => g.1.1) h⟩
def scEmb : Dev nD × Fin 10 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (n : ℕ) (h : n < 16) (h6 : 6 ≤ n) : dmaCell c n h ∈ (barCells ∪ scCells : Finset (GSem nD τ sig)) := by
  have := Finset.mem_map_of_mem scEmb (Finset.mem_univ (c, (⟨n - 6, by omega⟩ : Fin 10)))
  have e : scEmb (c, (⟨n - 6, by omega⟩ : Fin 10)) = dmaCell c n h := by
    show ((c : Thread nD τ), osem ⟨n - 6, by omega⟩) = ((c : Thread nD τ), SemLoc.dma (dsem n h))
    exact Prod.ext rfl (congrArg SemLoc.dma (Fin.ext (by show 6 + (n - 6) = n; omega)))
  rw [e] at this
  exact Finset.mem_union_right _ this

/-- What every device may consult: all the cells' invariants, under one map of names, and round 0 of every barrier. -/
def records (K : GSem nD τ sig → ℕ) : sProp 𝕄 :=
  iprop((bigSep (barCells ∪ scCells) fun g => cellInv ER (haloRd kv vv) (K g) g) ∗ bigSep barCells fun g => reached ER g 0)

instance records_persistent (K : GSem nD τ sig → ℕ) : BI.Persistent (records kv vv K) := by unfold records; infer_instance

theorem inv_at (K : GSem nD τ sig → ℕ) {g : GSem nD τ sig} (hg : g ∈ (barCells ∪ scCells : Finset (GSem nD τ sig))) :
    (bigSep (barCells ∪ scCells) fun g => (cellInv ER (haloRd kv vv) (K g) g : sProp 𝕄)) ⊢ cellInv ER (haloRd kv vv) (K g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

theorem inv_bar (K : GSem nD τ sig → ℕ) (c : Dev nD) : records kv vv K ⊢ cellInv ER (haloRd kv vv) (K (barCell c)) (barCell c) := by
  unfold records
  iintro ⟨#H, -⟩
  iapply (inv_at kv vv K (bar_mem c)); iexact H
theorem inv_dma (K : GSem nD τ sig → ℕ) (c : Dev nD) (n : ℕ) (h : n < 16) (h6 : 6 ≤ n) :
    records kv vv K ⊢ cellInv ER (haloRd kv vv) (K (dmaCell c n h)) (dmaCell c n h) := by
  unfold records
  iintro ⟨#H, -⟩
  iapply (inv_at kv vv K (dma_mem c n h h6)); iexact H
theorem reached_bar (K : GSem nD τ sig → ℕ) (c : Dev nD) : records kv vv K ⊢ reached ER (barCell c) 0 := by
  unfold records
  iintro ⟨-, #H⟩
  iapply (reached_at (F := F) c); iexact H

/-- The tokens of the duties device `c` pays. -/
def pays (c : Dev nD) : sProp 𝕄 :=
  iprop(dutyTok ER (barCell (lft c)) 0 0 ∗ dutyTok ER (barCell (rgt c)) 0 1
    ∗ dutyTok ER (dmaCell c 6) 0 0 ∗ dutyTok ER (dmaCell c 7) 0 0 ∗ dutyTok ER (dmaCell c 8) 0 0 ∗ dutyTok ER (dmaCell c 9) 0 0
    ∗ dutyTok ER (dmaCell (lft c) 10) 0 0 ∗ dutyTok ER (dmaCell (lft c) 11) 0 0
    ∗ dutyTok ER (dmaCell (rgt c) 12) 0 0 ∗ dutyTok ER (dmaCell (rgt c) 13) 0 0
    ∗ dutyTok ER (dmaCell c 14) 0 0 ∗ dutyTok ER (dmaCell c 15) 0 0)

/-- The credit device `c` waits with. -/
def credits (c : Dev nD) : sProp 𝕄 :=
  iprop(cred (tallyAt (barCell c) () 2) ∗ cred (tallyAt (dmaCell c 10) () N) ∗ cred (tallyAt (dmaCell c 11) () N)
    ∗ cred (tallyAt (dmaCell c 12) () N) ∗ cred (tallyAt (dmaCell c 13) () N))

/-- What device `c` carries from the launch to the exchange: the records, its barrier position, the rights to open its ten
    cells, the tokens it pays with. -/
def ghost (K : GSem nD τ sig → ℕ) (c : Dev nD) : sProp 𝕄 :=
  iprop(records kv vv K ∗ atPos ER (barCell c) 0 ∅ 0
    ∗ (bigSep Finset.univ fun k : Fin 10 => openTok ER ((c : Thread nD τ), osem k)) ∗ pays c)

/-- The same once the ten cells are open. -/
def opened (K : GSem nD τ sig → ℕ) (c : Dev nD) : sProp 𝕄 :=
  iprop(records kv vv K ∗ atPos ER (barCell c) 0 ∅ 0
    ∗ (bigSep Finset.univ fun k : Fin 10 => iprop(atPos ER ((c : Thread nD τ), osem k) 0 ∅ 0 ∗ reached ER ((c : Thread nD τ), osem k) 0))
    ∗ pays c)

theorem close (κ : ℕ) (g : GSem nD τ sig) :
    iprop(cellInv ER (haloRd kv vv) κ g ∗ atPos ER g (0 + 1) ∅ 0) ⊢ (|={Set.univ}=> semVal g 0 : sProp 𝕄) :=
  Rounds.cell_close ER (haloRd kv vv) (Set.mem_univ κ) id (duties_later kv vv g)

abbrev 𝒱₀ : Variants := Variants.none

end Cert.KernelIdeal.Halo
-- ==== Proof.Comm.lean ====
/-
  The halo exchange's single steps on device c: raising a neighbour's barrier, waiting for both neighbours' raises, a copy of
  128 rows to a neighbour, a copy of 1024 rows on the device, the wait for a copy.
-/
module

public import proofs.«01_k».proof.Proof.Schedule

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv vv : Rows F) (K : GSem nD τ sig → ℕ) (c : Dev nD)

/-- What device `c` owes, whatever waits it has recorded. -/
def debt (O : CellTallies nD τ sig Unit) : sProp 𝕄 := iprop(∃ W, owes (c : Thread nD τ) O W)

variable {α : Type} {Q : α → sProp (MT nD τ sig Unit (Elt F) ℕ UU ℕ)}

theorem wp_raise_left {n : Dev nD} (hn : n = lft c) {k : PUnit → Prog (TpuEff nD τ sig (Elt F) Λ₀ .tc) α} :
    iprop(records kv vv K ∗ debt c (O₀ c) ∗ dutyTok ER (barCell (lft c)) 0 0
        ∗ (∃ f, pv c kLoM fullShare f) ∗ (∃ f, pv c vLoM fullShare f)
        ∗ reached ER (dmaCell c 12) 0 ∗ reached ER (dmaCell c 13) 0)
      ⊢ iprop((debt c (O₁ c + tallyAt (barCell (rgt c)) () 1) -∗ wp frame (wpE (defs₀ (F := F)) 𝒱₀ c none) Set.univ (k ⟨⟩) Q)
        -∗ wp frame (wpE (defs₀ (F := F)) 𝒱₀ c none) Set.univ (.op (.semSignal (Dev.tc n) barS 1) k) Q) := by
  subst hn
  unfold debt
  iintro ⟨#HR, ⟨%W, HO⟩, Ht, HkLo, HvLo, #H12, #H13⟩ Hk
  iapply (Rounds.wp_signal 𝒱₀ ER (haloRd kv vv) (c : Thread nD τ) none (dst := (lft c : Thread nD τ)) (sem := barS) (r := 0) (d := 0)
      (κ := K (barCell (lft c))) (mem_bar kv vv (lft c) 0) (amount_bar kv vv (lft c) 0) ()
      (O₁ c + tallyAt (barCell (rgt c)) () 1) rfl) $$ [HO Ht HkLo HvLo]
  · isplitr; · iapply (inv_bar kv vv K (lft c)); iexact HR
    isplitl [HO]; · iexact HO
    isplitl [Ht]; · iexact Ht
    isplitl [HkLo HvLo]
    · rw [payload_bar]; unfold barPay; rw [rgt_lft]
      isplitl [HkLo]; · iexact HkLo
      isplitl [HvLo]; · iexact HvLo
      isplitr; · iexact H12
      iexact H13
    · iapply (reached_bar kv vv K (lft c)); iexact HR
  iintro HO
  iapply Hk
  iexists W; iexact HO

theorem wp_raise_right {n : Dev nD} (hn : n = rgt c) {k : PUnit → Prog (TpuEff nD τ sig (Elt F) Λ₀ .tc) α} :
    iprop(records kv vv K ∗ debt c (O₁ c + tallyAt (barCell (rgt c)) () 1) ∗ dutyTok ER (barCell (rgt c)) 0 1
        ∗ (∃ f, pv c kHiM fullShare f) ∗ (∃ f, pv c vHiM fullShare f)
        ∗ reached ER (dmaCell c 10) 0 ∗ reached ER (dmaCell c 11) 0)
      ⊢ iprop((debt c (O₁ c) -∗ wp frame (wpE (defs₀ (F := F)) 𝒱₀ c none) Set.univ (k ⟨⟩) Q)
        -∗ wp frame (wpE (defs₀ (F := F)) 𝒱₀ c none) Set.univ (.op (.semSignal (Dev.tc n) barS 1) k) Q) := by
  subst hn
  unfold debt
  iintro ⟨#HR, ⟨%W, HO⟩, Ht, HkHi, HvHi, #H10, #H11⟩ Hk
  iapply (Rounds.wp_signal 𝒱₀ ER (haloRd kv vv) (c : Thread nD τ) none (dst := (rgt c : Thread nD τ)) (sem := barS) (r := 0) (d := 1)
      (κ := K (barCell (rgt c))) (mem_bar kv vv (rgt c) 1) (amount_bar kv vv (rgt c) 1) () (O₁ c) rfl) $$ [HO Ht HkHi HvHi]
  · isplitr; · iapply (inv_bar kv vv K (rgt c)); iexact HR
    isplitl [HO]; · iexact HO
    isplitl [Ht]; · iexact Ht
    isplitl [HkHi HvHi]
    · rw [payload_bar]; unfold barPay; rw [lft_rgt]
      isplitl [HkHi]; · iexact HkHi
      isplitl [HvHi]; · iexact HvHi
      isplitr; · iexact H10
      iexact H11
    · iapply (reached_bar kv vv K (rgt c)); iexact HR
  iintro HO
  iapply Hk
  iexists W; iexact HO

theorem wp_wait_both {k : PUnit → Prog (TpuEff nD τ sig (Elt F) Λ₀ .tc) α} :
    iprop(records kv vv K ∗ levAts L lv ∗ debt c (O₁ c) ∗ cred (tallyAt (barCell c) () 2) ∗ atPos ER (barCell c) 0 ∅ 0)
      ⊢ iprop((iprop(debt c (O₁ c) ∗ atPos ER (barCell c) (0 + 1) ∅ 0 ∗ barPay c 0 ∗ barPay c 1)
          -∗ wp frame (wpE (defs₀ (F := F)) 𝒱₀ c none) Set.univ (k ⟨⟩) Q)
        -∗ wp frame (wpE (defs₀ (F := F)) 𝒱₀ c none) Set.univ (.op (.semWait barS 2) k) Q) := by
  unfold debt
  iintro ⟨#HR, #Hlev, ⟨%W, HO⟩, Hc, Hat⟩ Hk
  iapply (Rounds.wp_wait_rest_token 𝒱₀ ER (haloRd kv vv) (c : Thread nD τ) none (κ := K (barCell c))
      (wpE_semWait_eq 𝒱₀ (c : Thread nD τ) none Set.univ) (Set.mem_univ _) () (O := O₁ c) (W := W) (R := 0) (m := 0) (T := ∅)
      ((Nat.zero_add 2).trans (expect_bar kv vv c).symm)) $$ [Hc HO Hat]
  · isplitr; · iapply (inv_bar kv vv K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar kv vv c)) $$ Hpay
  icases Hp with ⟨Hp0, Hp1⟩
  iapply Hk
  isplitl [HO]; · iexists _; iexact HO
  isplitl [Hat]; · iexact Hat
  isplitl [Hp0] <;> iassumption

/-- A copy of 128 rows to neighbour `e`, on the device's own cell `a` and the neighbour's cell `b`. -/
theorem wp_send_rows {src : Memref sig .tc .hbm S128x1024 .bf16} {dst : Memref sig .tc .vmem S128x1024 .bf16} {n : Dev nD} (e : Dev nD)
    (hn : n = e) {sS sR : DmaSem sig} (a b : ℕ) (ha : a < 10) (ha6 : 6 ≤ a) (hb : b < 14) (hb6 : 6 ≤ b)
    (hsS : sS = dsem a (by omega)) (hsR : sR = dsem b (by omega))
    {hsc : (dst : Memref sig (Dev.tc n : Thread nD τ).2.kind .vmem S128x1024 .bf16).view.ref.isScScratch = false} {hsrc : src.view.WordExact} {hdst : dst.view.WordExact}
    {hsem : DmaTarget.Typed .hbm (.dma sR) (.remote (Dev.tc n) dst (.dma sS) hsc)}
    {k : PUnit → Prog (TpuEff nD τ sig (Elt F) Λ₀ .tc) α}
    (fs : Buf (Elt F) (src.view.loc (c : Thread nD τ))) (hN : dst.view.dmaCredit = N)
    (hpay₁ : pv c src fullShare.right fs ⊢ dmaPay kv vv c a)
    (hpay₂ : ∀ fd : Buf (Elt F) (dst.view.loc (e : Thread nD τ)),
      pv e dst fullShare (dst.view.write (Elt F) fd (src.view.read (Elt F) fs) Finset.univ) ⊢ dmaPay kv vv e b)
    (O : CellTallies nD τ sig Unit) :
    iprop(records kv vv K ∗ pv c src fullShare.right fs ∗ (∃ fd, pv e dst fullShare fd)
        ∗ debt c (O + tallyAt (dmaCell e b (by omega)) () N)
        ∗ dutyTok ER (dmaCell c a (by omega)) 0 0 ∗ reached ER (dmaCell c a (by omega)) 0
        ∗ dutyTok ER (dmaCell e b (by omega)) 0 0 ∗ reached ER (dmaCell e b (by omega)) 0)
      ⊢ iprop((iprop(cred (tallyAt (dmaCell c a (by omega)) () N) ∗ debt c O)
          -∗ wp frame (wpE (defs₀ (F := F)) 𝒱₀ c none) Set.univ (k ⟨⟩) Q)
        -∗ wp frame (wpE (defs₀ (F := F)) 𝒱₀ c none) Set.univ
            (.op (.enqueueDma src (.remote (Dev.tc n) dst (.dma sS) hsc) (.dma sR) hsrc hdst hsem) k) Q) := by
  subst hn hsS hsR
  unfold debt
  iintro ⟨#HR, Hs, ⟨%fd, Hd⟩, ⟨%W, HO⟩, Hta, #Hra, Htb, #Hrb⟩ Hk
  iapply (Rounds.wp_send_pointsTo 𝒱₀ ER (haloRd kv vv) (c : Thread nD τ) none (c' := (n : Thread nD τ)) (src := src) (dst := dst)
      (sS := .dma (dsem a _)) (sem := .dma (dsem b _)) (q := fullShare.right) (fs := fs) (κ₁ := K (dmaCell c a _))
      (κ₂ := K (dmaCell n b _)) (r₁ := 0) (r₂ := 0) (d₁ := 0) (d₂ := 0) (fd := fd)
      (mem_dma kv vv c a _ ha6) (mem_dma kv vv n b _ hb6) () () N hN
      (amount_N kv vv c a _ (by omega) 0) (amount_N kv vv n b _ hb 0) O rfl (W := W) hpay₁ (hpay₂ fd)) $$ [Hs Hd HO Hta Htb]
  · isplitr; · iapply (inv_dma kv vv K c a _ ha6); iexact HR
    isplitr; · iapply (inv_dma kv vv K n b _ hb6); iexact HR
    isplitl [Hs]; · iexact Hs
    isplitl [Hd]; · iexact Hd
    isplitl [HO]; · iexact HO
    isplitl [Hta]; · iexact Hta
    isplitr; · iexact Hra
    isplitl [Htb]; · iexact Htb
    iexact Hrb
  iintro ⟨Hc, HO⟩
  iapply Hk
  isplitl [Hc]; · iexact Hc
  iexists W; iexact HO

/-- A copy of 1024 rows on the device, on its own cell `a`. -/
theorem wp_copy_rows {src : Memref sig .tc .hbm S1024x1024 .bf16} {dst : Memref sig .tc .vmem S1024x1024 .bf16}
    {sS : DmaSem sig} (a : ℕ) (ha : a < 16) (ha14 : ¬ a < 14) (hsS : sS = dsem a ha)
    {hsrc : src.view.WordExact} {hdst : dst.view.WordExact} {hsem : DmaTarget.Typed (nD := nD) .hbm (.dma sS) (DmaTarget.here (nD := nD) (p := (Proc.tc : Proc τ)) dst)}
    {k : PUnit → Prog (TpuEff nD τ sig (Elt F) Λ₀ .tc) α}
    (fs : Buf (Elt F) (src.view.loc (c : Thread nD τ))) (hN : dst.view.dmaCredit = M)
    (hpay : ∀ fd : Buf (Elt F) (dst.view.loc (c : Thread nD τ)),
      iprop(pv c dst fullShare (dst.view.write (Elt F) fd (src.view.read (Elt F) fs) Finset.univ) ∗ pv c src fullShare.left fs) ⊢ dmaPay kv vv c a) :
    iprop(records kv vv K ∗ pv c src fullShare.left fs ∗ (∃ fd, pv c dst fullShare fd)
        ∗ dutyTok ER (dmaCell c a ha) 0 0 ∗ reached ER (dmaCell c a ha) 0)
      ⊢ iprop((cred (tallyAt (dmaCell c a ha) () M) -∗ wp frame (wpE (defs₀ (F := F)) 𝒱₀ c none) Set.univ (k ⟨⟩) Q)
        -∗ wp frame (wpE (defs₀ (F := F)) 𝒱₀ c none) Set.univ (.op (.enqueueDma src (.here dst) (.dma sS) hsrc hdst hsem) k) Q) := by
  subst hsS
  iintro ⟨#HR, Hs, ⟨%fd, Hd⟩, Hta, #Hra⟩ Hk
  iapply (Rounds.wp_copy_pointsTo 𝒱₀ ER (haloRd kv vv) (c : Thread nD τ) none (src := src) (dst := dst) (sem := .dma (dsem a ha)) (q := fullShare.left)
      (fs := fs) (fd := fd) (r := 0) (d := 0) (κ := K (dmaCell c a ha)) (mem_dma kv vv c a ha (by omega)) () M hN
      (amount_M kv vv c a ha ha14 0) (hpay fd)) $$ [Hs Hd Hta]
  · isplitr; · iapply (inv_dma kv vv K c a ha (by omega)); iexact HR
    isplitl [Hs]; · iexact Hs
    isplitl [Hd]; · iexact Hd
    isplitl [Hta]; · iexact Hta
    iexact Hra
  iexact Hk

/-- The wait for one of the device's own cells `a`, nothing owed: what was paid into it comes back. -/
theorem wp_wait_cell {sp sp' : Space} {s s' : Shape} {e e' : EltTy} {κ' : Kind} {src : Memref sig .tc sp' s' e'} {dst : Memref sig κ' sp s e}
    {hsrc : src.view.WordExact} {hdst : dst.view.WordExact} {sS : DmaSem sig} (a : ℕ) (ha : a < 16) (ha6 : 6 ≤ a) (hsS : sS = dsem a ha)
    (A : ℕ) (hA : (haloRd kv vv).expect (dmaCell c a ha) 0 = A) (hN : dst.view.dmaCredit = A)
    {k : PUnit → Prog (TpuEff nD τ sig (Elt F) Λ₀ .tc) α} :
    iprop(records kv vv K ∗ debt c 0 ∗ cred (tallyAt (dmaCell c a ha) () A) ∗ atPos ER (dmaCell c a ha) 0 ∅ 0)
      ⊢ iprop((iprop(debt c 0 ∗ atPos ER (dmaCell c a ha) (0 + 1) ∅ 0 ∗ dmaPay kv vv c a)
          -∗ wp frame (wpE (defs₀ (F := F)) 𝒱₀ c none) Set.univ (k ⟨⟩) Q)
        -∗ wp frame (wpE (defs₀ (F := F)) 𝒱₀ c none) Set.univ (.op (.waitDma2 sS src dst hsrc hdst) k) Q) := by
  subst hsS hN
  unfold debt
  iintro ⟨#HR, ⟨%W, HO⟩, Hc, Hat⟩ Hk
  iapply (Rounds.wp_wait_rest_token 𝒱₀ ER (haloRd kv vv) (c : Thread nD τ) none (κ := K (dmaCell c a ha))
      (wpE_waitDma2_eq (src := src) (dst := dst) 𝒱₀ (c : Thread nD τ) none Set.univ) (Set.mem_univ _) () (O := 0) (W := W) (R := 0) (m := 0) (T := ∅)
      ((Nat.zero_add _).trans hA.symm)) $$ [Hc HO Hat]
  · isplitr; · iapply (inv_dma kv vv K c a ha ha6); iexact HR
    isplitl [Hc]; · iexact Hc
    isplitl [HO]; · iexact HO
    isplitr; · rw [MayWait_zero]; iempintro
    iexact Hat
  iintro ⟨HO, Hat, -, Hpay⟩
  ihave Hp := (Entails.of_eq (rest_dma kv vv c a ha ha6)) $$ Hpay
  iapply Hk
  isplitl [HO]; · iexists _; iexact HO
  isplitl [Hat] <;> iassumption

/-- A cell closed after its round: its counter back at zero. -/
theorem close_cell (a : ℕ) (ha : a < 16) (ha6 : 6 ≤ a) :
    iprop(records kv vv K ∗ atPos ER (dmaCell c a ha) (0 + 1) ∅ 0) ⊢ (|={Set.univ}=> semVal (dmaCell c a ha) 0 : sProp 𝕄) := by
  iintro ⟨#HR, Hat⟩
  iapply (close kv vv (K (dmaCell c a ha)) (dmaCell c a ha))
  isplitr; · iapply (inv_dma kv vv K c a ha ha6); iexact HR
  iexact Hat
theorem close_bar :
    iprop(records kv vv K ∗ atPos ER (barCell c) (0 + 1) ∅ 0) ⊢ (|={Set.univ}=> semVal (barCell c) 0 : sProp 𝕄) := by
  iintro ⟨#HR, Hat⟩
  iapply (close kv vv (K (barCell c)) (barCell c))
  isplitr; · iapply (inv_bar kv vv K c); iexact HR
  iexact Hat

/-! ## What each copy pays -/

theorem pay_kTop : pv c kTopM fullShare.right (kv c) ⊢ dmaPay kv vv c 6 := BI.Entails.refl _
theorem pay_vTop : pv c vTopM fullShare.right (vv c) ⊢ dmaPay kv vv c 7 := BI.Entails.refl _
theorem pay_kBot : pv c kBotM fullShare.right (kv c) ⊢ dmaPay kv vv c 8 := BI.Entails.refl _
theorem pay_vBot : pv c vBotM fullShare.right (vv c) ⊢ dmaPay kv vv c 9 := BI.Entails.refl _
theorem pay_kHi (fd : Buf (Elt F) (kHiM.view.loc (lft c : Thread nD τ))) :
    pv (lft c) kHiM fullShare (kHiM.view.write (Elt F) fd (kTopM.view.read (Elt F) (kv c)) Finset.univ) ⊢ dmaPay kv vv (lft c) 10 :=
  Entails.of_eq (pointsTo_congr (landed_kHi kv c fd))
theorem pay_vHi (fd : Buf (Elt F) (vHiM.view.loc (lft c : Thread nD τ))) :
    pv (lft c) vHiM fullShare (vHiM.view.write (Elt F) fd (vTopM.view.read (Elt F) (vv c)) Finset.univ) ⊢ dmaPay kv vv (lft c) 11 :=
  Entails.of_eq (pointsTo_congr (landed_vHi vv c fd))
theorem pay_kLo (fd : Buf (Elt F) (kLoM.view.loc (rgt c : Thread nD τ))) :
    pv (rgt c) kLoM fullShare (kLoM.view.write (Elt F) fd (kBotM.view.read (Elt F) (kv c)) Finset.univ) ⊢ dmaPay kv vv (rgt c) 12 :=
  Entails.of_eq (pointsTo_congr (landed_kLo kv c fd))
theorem pay_vLo (fd : Buf (Elt F) (vLoM.view.loc (rgt c : Thread nD τ))) :
    pv (rgt c) vLoM fullShare (vLoM.view.write (Elt F) fd (vBotM.view.read (Elt F) (vv c)) Finset.univ) ⊢ dmaPay kv vv (rgt c) 13 :=
  Entails.of_eq (pointsTo_congr (landed_vLo vv c fd))
theorem pay_kMid (fd : Buf (Elt F) (kMidM.view.loc (c : Thread nD τ))) :
    iprop(pv c kMidM fullShare (kMidM.view.write (Elt F) fd (kM.view.read (Elt F) (kv c)) Finset.univ) ∗ pv c kM fullShare.left (kv c))
      ⊢ dmaPay kv vv c 14 :=
  sep_mono_left (Entails.of_eq (pointsTo_congr (copied_kMid kv c fd)))
theorem pay_vMid (fd : Buf (Elt F) (vMidM.view.loc (c : Thread nD τ))) :
    iprop(pv c vMidM fullShare (vMidM.view.write (Elt F) fd (vM.view.read (Elt F) (vv c)) Finset.univ) ∗ pv c vM fullShare.left (vv c))
      ⊢ dmaPay kv vv c 15 :=
  sep_mono_left (Entails.of_eq (pointsTo_congr (copied_vMid vv c fd)))

end Cert.KernelIdeal.Halo
-- ==== Proof.Values.lean ====
/-
  What the attention's array of contexts holds: one tile of 256 rows and 128 columns per chunk of queries and head, each the
  same function of the chunk's bias, the head's queries, keys and values.
-/
module

public import proofs.«01_k».proof.Proof.Cells
public import Idealize.ShloMosaic.Lib.Writes
public import Idealize.ShloMosaic.Lib.Pipeline.Value

@[expose] public section

noncomputable section

namespace Cert.KernelIdeal.Halo

open Cert.KernelIdeal Cert.KernelIdeal.Gen Cert.KernelIdeal.Facts
open Idealize.ShloMosaic
open Idealize.ShloMosaic.TcCoe

variable {F : FTy → Type} [FloatOps F] [Named F]

/-! ## The printed payloads are one function -/

theorem pay2_eq (v68 : Vec F S1024x1024 .bf16) : k1_pay2 v68 = v68 := by
  unfold k1_pay2
  exact shapeCast_self v68 _
theorem pay5_eq (v68 : Vec F S1024x1024 .bf16) : k1_pay5 v68 = extractStridedSlice S256x128 ![256, 0] v68 slices_S1024x1024_o256_0_S256x128 := by
  unfold k1_pay5
  dsimp only
  rw [pay2_eq]
theorem pay7_eq (v69 : FVec F S1024x1024 .bf16) (v81 : FVec F S256x512 .bf16) (v108 : Vec F S512x128 .bf16) (v109 : Vec F S512x128 .bf16) : k1_pay7 v69 v81 v108 v109 = k1_pay6 v81 (extractStridedSlice S256x128 ![256, 128] v69 slices_S1024x1024_o256_128_S256x128) v108 v109 := rfl
theorem pay8_eq (v69 : FVec F S1024x1024 .bf16) : k1_pay8 v69 = extractStridedSlice S256x128 ![256, 256] v69 slices_S1024x1024_o256_256_S256x128 := rfl
theorem pay9_eq (v81 : FVec F S256x512 .bf16) (v126 : FVec F S256x128 .bf16) (v127 : Vec F S512x128 .bf16) (v128 : Vec F S512x128 .bf16) : k1_pay9 v81 v126 v127 v128 = k1_pay6 v81 v126 v127 v128 := rfl
theorem pay10_eq (v69 : FVec F S1024x1024 .bf16) (v81 : FVec F S256x512 .bf16) (v146 : Vec F S512x128 .bf16) (v147 : Vec F S512x128 .bf16) : k1_pay10 v69 v81 v146 v147 = k1_pay6 v81 (extractStridedSlice S256x128 ![256, 384] v69 slices_S1024x1024_o256_384_S256x128) v146 v147 := rfl
theorem pay11_eq (v69 : FVec F S1024x1024 .bf16) : k1_pay11 v69 = extractStridedSlice S256x128 ![256, 512] v69 slices_S1024x1024_o256_512_S256x128 := rfl
theorem pay12_eq (v81 : FVec F S256x512 .bf16) (v164 : FVec F S256x128 .bf16) (v165 : Vec F S512x128 .bf16) (v166 : Vec F S512x128 .bf16) : k1_pay12 v81 v164 v165 v166 = k1_pay6 v81 v164 v165 v166 := rfl
theorem pay13_eq (v69 : FVec F S1024x1024 .bf16) (v81 : FVec F S256x512 .bf16) (v184 : Vec F S512x128 .bf16) (v185 : Vec F S512x128 .bf16) : k1_pay13 v69 v81 v184 v185 = k1_pay6 v81 (extractStridedSlice S256x128 ![256, 640] v69 slices_S1024x1024_o256_640_S256x128) v184 v185 := rfl
theorem pay14_eq (v69 : FVec F S1024x1024 .bf16) : k1_pay14 v69 = extractStridedSlice S256x128 ![256, 768] v69 slices_S1024x1024_o256_768_S256x128 := rfl
theorem pay15_eq (v81 : FVec F S256x512 .bf16) (v202 : FVec F S256x128 .bf16) (v203 : Vec F S512x128 .bf16) (v204 : Vec F S512x128 .bf16) : k1_pay15 v81 v202 v203 v204 = k1_pay6 v81 v202 v203 v204 := rfl
theorem pay16_eq (v69 : FVec F S1024x1024 .bf16) (v81 : FVec F S256x512 .bf16) (v222 : Vec F S512x128 .bf16) (v223 : Vec F S512x128 .bf16) : k1_pay16 v69 v81 v222 v223 = k1_pay6 v81 (extractStridedSlice S256x128 ![256, 896] v69 slices_S1024x1024_o256_896_S256x128) v222 v223 := rfl
theorem pay17_eq (v69 : FVec F S1024x1024 .bf16) : k1_pay17 v69 = extractStridedSlice S256x128 ![512, 0] v69 slices_S1024x1024_o512_0_S256x128 := rfl
theorem pay18_eq (v81 : FVec F S256x512 .bf16) (v240 : FVec F S256x128 .bf16) (v241 : Vec F S512x128 .bf16) (v242 : Vec F S512x128 .bf16) : k1_pay18 v81 v240 v241 v242 = k1_pay6 v81 v240 v241 v242 := rfl
theorem pay19_eq (v69 : FVec F S1024x1024 .bf16) (v81 : FVec F S256x512 .bf16) (v260 : Vec F S512x128 .bf16) (v261 : Vec F S512x128 .bf16) : k1_pay19 v69 v81 v260 v261 = k1_pay6 v81 (extractStridedSlice S256x128 ![512, 128] v69 slices_S1024x1024_o512_128_S256x128) v260 v261 := rfl
theorem pay20_eq (v69 : FVec F S1024x1024 .bf16) : k1_pay20 v69 = extractStridedSlice S256x128 ![512, 256] v69 slices_S1024x1024_o512_256_S256x128 := rfl
theorem pay21_eq (v81 : FVec F S256x512 .bf16) (v278 : FVec F S256x128 .bf16) (v279 : Vec F S512x128 .bf16) (v280 : Vec F S512x128 .bf16) : k1_pay21 v81 v278 v279 v280 = k1_pay6 v81 v278 v279 v280 := rfl
theorem pay22_eq (v69 : FVec F S1024x1024 .bf16) (v81 : FVec F S256x512 .bf16) (v298 : Vec F S512x128 .bf16) (v299 : Vec F S512x128 .bf16) : k1_pay22 v69 v81 v298 v299 = k1_pay6 v81 (extractStridedSlice S256x128 ![512, 384] v69 slices_S1024x1024_o512_384_S256x128) v298 v299 := rfl
theorem pay23_eq (v69 : FVec F S1024x1024 .bf16) : k1_pay23 v69 = extractStridedSlice S256x128 ![512, 512] v69 slices_S1024x1024_o512_512_S256x128 := rfl
theorem pay24_eq (v81 : FVec F S256x512 .bf16) (v316 : FVec F S256x128 .bf16) (v317 : Vec F S512x128 .bf16) (v318 : Vec F S512x128 .bf16) : k1_pay24 v81 v316 v317 v318 = k1_pay6 v81 v316 v317 v318 := rfl
theorem pay25_eq (v69 : FVec F S1024x1024 .bf16) (v81 : FVec F S256x512 .bf16) (v336 : Vec F S512x128 .bf16) (v337 : Vec F S512x128 .bf16) : k1_pay25 v69 v81 v336 v337 = k1_pay6 v81 (extractStridedSlice S256x128 ![512, 640] v69 slices_S1024x1024_o512_640_S256x128) v336 v337 := rfl
theorem pay26_eq (v69 : FVec F S1024x1024 .bf16) : k1_pay26 v69 = extractStridedSlice S256x128 ![512, 768] v69 slices_S1024x1024_o512_768_S256x128 := rfl
theorem pay27_eq (v81 : FVec F S256x512 .bf16) (v354 : FVec F S256x128 .bf16) (v355 : Vec F S512x128 .bf16) (v356 : Vec F S512x128 .bf16) : k1_pay27 v81 v354 v355 v356 = k1_pay6 v81 v354 v355 v356 := rfl
theorem pay28_eq (v69 : FVec F S1024x1024 .bf16) (v81 : FVec F S256x512 .bf16) (v374 : Vec F S512x128 .bf16) (v375 : Vec F S512x128 .bf16) : k1_pay28 v69 v81 v374 v375 = k1_pay6 v81 (extractStridedSlice S256x128 ![512, 896] v69 slices_S1024x1024_o512_896_S256x128) v374 v375 := rfl
theorem pay31_eq (v69 : FVec F S1024x1024 .bf16) (v442 : IVec S256x512 1) (cst_278 : F .f32) (cst_279 : F .f32) (v448 : Vec F S512x128 .bf16) (v449 : Vec F S512x128 .bf16) : k1_pay31 v69 v442 cst_278 cst_279 v448 v449 = k1_pay6 (k1_pay30 v442 cst_278 cst_279) (extractStridedSlice S256x128 ![0, 0] v69 slices_S1024x1024_o0_0_S256x128) v448 v449 := rfl
theorem pay33_eq (v69 : FVec F S1024x1024 .bf16) (v442 : IVec S256x512 1) (cst_278 : F .f32) (cst_279 : F .f32) (v467 : Vec F S512x128 .bf16) (v468 : Vec F S512x128 .bf16) : k1_pay33 (k1_pay32 v69 v442 cst_278 cst_279 v467 v468) = k1_pay6 (k1_pay30 v442 cst_278 cst_279) (extractStridedSlice S256x128 ![0, 128] v69 slices_S1024x1024_o0_128_S256x128) v467 v468 := rfl
theorem pay34_eq (v69 : FVec F S1024x1024 .bf16) (v446 : FVec F S256x512 .bf16) (v486 : Vec F S512x128 .bf16) (v487 : Vec F S512x128 .bf16) : k1_pay34 v69 v446 v486 v487 = k1_pay6 v446 (extractStridedSlice S256x128 ![0, 256] v69 slices_S1024x1024_o0_256_S256x128) v486 v487 := rfl
theorem pay36_eq (v69 : FVec F S1024x1024 .bf16) (v446 : FVec F S256x512 .bf16) (v505 : Vec F S512x128 .bf16) (v506 : Vec F S512x128 .bf16) : k1_pay36 (k1_pay35 v69 v446 v505 v506) = k1_pay6 v446 (extractStridedSlice S256x128 ![0, 384] v69 slices_S1024x1024_o0_384_S256x128) v505 v506 := rfl
theorem pay37_eq (v69 : FVec F S1024x1024 .bf16) (v446 : FVec F S256x512 .bf16) (v524 : Vec F S512x128 .bf16) (v525 : Vec F S512x128 .bf16) : k1_pay37 v69 v446 v524 v525 = k1_pay6 v446 (extractStridedSlice S256x128 ![0, 512] v69 slices_S1024x1024_o0_512_S256x128) v524 v525 := rfl
theorem pay39_eq (v69 : FVec F S1024x1024 .bf16) (v446 : FVec F S256x512 .bf16) (v543 : Vec F S512x128 .bf16) (v544 : Vec F S512x128 .bf16) : k1_pay39 (k1_pay38 v69 v446 v543 v544) = k1_pay6 v446 (extractStridedSlice S256x128 ![0, 640] v69 slices_S1024x1024_o0_640_S256x128) v543 v544 := rfl
theorem pay40_eq (v69 : FVec F S1024x1024 .bf16) (v446 : FVec F S256x512 .bf16) (v562 : Vec F S512x128 .bf16) (v563 : Vec F S512x128 .bf16) : k1_pay40 v69 v446 v562 v563 = k1_pay6 v446 (extractStridedSlice S256x128 ![0, 768] v69 slices_S1024x1024_o0_768_S256x128) v562 v563 := rfl
theorem pay42_eq (v69 : FVec F S1024x1024 .bf16) (v446 : FVec F S256x512 .bf16) (v581 : Vec F S512x128 .bf16) (v582 : Vec F S512x128 .bf16) : k1_pay42 (k1_pay41 v69 v446 v581 v582) = k1_pay6 v446 (extractStridedSlice S256x128 ![0, 896] v69 slices_S1024x1024_o0_896_S256x128) v581 v582 := rfl
theorem pay44_eq (v2 : BitVec 32) (v69 : FVec F S1024x1024 .bf16) (v71 : IVec S256x512 32) (v77 : IVec S256x512 1) (v615 : Vec F S512x128 .bf16) (v616 : Vec F S512x128 .bf16) : k1_pay44 v2 v69 v71 v77 v615 v616 = k1_pay6 (k1_pay43 (F := F) v2 v71 v77) (extractStridedSlice S256x128 ![768, 0] v69 slices_S1024x1024_o768_0_S256x128) v615 v616 := rfl
theorem pay45_eq (v69 : FVec F S1024x1024 .bf16) : k1_pay45 v69 = extractStridedSlice S256x128 ![768, 128] v69 slices_S1024x1024_o768_128_S256x128 := rfl
theorem pay46_eq (v613 : FVec F S256x512 .bf16) (v633 : FVec F S256x128 .bf16) (v634 : Vec F S512x128 .bf16) (v635 : Vec F S512x128 .bf16) : k1_pay46 v613 v633 v634 v635 = k1_pay6 v613 v633 v634 v635 := rfl
theorem pay47_eq (v69 : FVec F S1024x1024 .bf16) (v613 : FVec F S256x512 .bf16) (v653 : Vec F S512x128 .bf16) (v654 : Vec F S512x128 .bf16) : k1_pay47 v69 v613 v653 v654 = k1_pay6 v613 (extractStridedSlice S256x128 ![768, 256] v69 slices_S1024x1024_o768_256_S256x128) v653 v654 := rfl
theorem pay48_eq (v69 : FVec F S1024x1024 .bf16) : k1_pay48 v69 = extractStridedSlice S256x128 ![768, 384] v69 slices_S1024x1024_o768_384_S256x128 := rfl
theorem pay49_eq (v613 : FVec F S256x512 .bf16) (v671 : FVec F S256x128 .bf16) (v672 : Vec F S512x128 .bf16) (v673 : Vec F S512x128 .bf16) : k1_pay49 v613 v671 v672 v673 = k1_pay6 v613 v671 v672 v673 := rfl
theorem pay50_eq (v69 : FVec F S1024x1024 .bf16) (v613 : FVec F S256x512 .bf16) (v691 : Vec F S512x128 .bf16) (v692 : Vec F S512x128 .bf16) : k1_pay50 v69 v613 v691 v692 = k1_pay6 v613 (extractStridedSlice S256x128 ![768, 512] v69 slices_S1024x1024_o768_512_S256x128) v691 v692 := rfl
theorem pay51_eq (v69 : FVec F S1024x1024 .bf16) : k1_pay51 v69 = extractStridedSlice S256x128 ![768, 640] v69 slices_S1024x1024_o768_640_S256x128 := rfl
theorem pay52_eq (v613 : FVec F S256x512 .bf16) (v709 : FVec F S256x128 .bf16) (v710 : Vec F S512x128 .bf16) (v711 : Vec F S512x128 .bf16) : k1_pay52 v613 v709 v710 v711 = k1_pay6 v613 v709 v710 v711 := rfl
theorem pay53_eq (v69 : FVec F S1024x1024 .bf16) (v613 : FVec F S256x512 .bf16) (v729 : Vec F S512x128 .bf16) (v730 : Vec F S512x128 .bf16) : k1_pay53 v69 v613 v729 v730 = k1_pay6 v613 (extractStridedSlice S256x128 ![768, 768] v69 slices_S1024x1024_o768_768_S256x128) v729 v730 := rfl
theorem pay54_eq (v69 : FVec F S1024x1024 .bf16) : k1_pay54 v69 = extractStridedSlice S256x128 ![768, 896] v69 slices_S1024x1024_o768_896_S256x128 := rfl
theorem pay55_eq (v613 : FVec F S256x512 .bf16) (v747 : FVec F S256x128 .bf16) (v748 : Vec F S512x128 .bf16) (v749 : Vec F S512x128 .bf16) : k1_pay55 v613 v747 v748 v749 = k1_pay6 v613 v747 v748 v749 := rfl

/-! ## The tiles -/

/-- The device's position on the ring, as the kernel computes it. -/
abbrev pos (c : Dev nD) : BitVec 32 := Scalar.remsi (Scalar.divsi (Dev.word c) 1#32) 4#32

/-- The bias of chunk `t` at position `w`: zero on the band (and, in the chunks that touch the halo, on the keys that exist),
    the mask elsewhere. -/
def bias (w : BitVec 32) (t : Fin 4) : FVec F S256x512 .bf16 :=
  if t = 0 then k1_pay30 (k1_pay29 w (iota .tc S256x512 32 [1] iota_S256x512_d1_w32) k1_pay3) (Scalar.ofBits .f32 0x00000000#32) (Named.named κ "mask" 0xCE6E6B28#32)
  else if t = 3 then k1_pay43 w (iota .tc S256x512 32 [1] iota_S256x512_d1_w32) k1_pay3
  else k1_pay4

/-- Queries of chunk `t`, head `h`. -/
def qTile (q : S1024x1024.Idx → Elt F .bf16) (t : Fin 4) (h : Fin 8) : FVec F S256x128 .bf16 := fun j =>
  q (ix2 (n0 := 1024) (n1 := 1024) ⟨256 * t.val + (j 0).val, by have h0 : (j 0).val < 256 := (j 0).isLt; omega⟩
    ⟨128 * h.val + (j 1).val, by have h1 : (j 1).val < 128 := (j 1).isLt; omega⟩)
/-- Keys (or values) chunk `t` sees, head `h`. -/
def kTile (k : S1280x1024.Idx → Elt F .bf16) (t : Fin 4) (h : Fin 8) : Vec F S512x128 .bf16 := fun j =>
  k (ix2 (n0 := 1280) (n1 := 1024) ⟨256 * t.val + (j 0).val, by have h0 : (j 0).val < 512 := (j 0).isLt; omega⟩
    ⟨128 * h.val + (j 1).val, by have h1 : (j 1).val < 128 := (j 1).isLt; omega⟩)

/-- The tile of chunk `t`, head `h`. -/
def headTile (w : BitVec 32) (q : S1024x1024.Idx → Elt F .bf16) (k v : S1280x1024.Idx → Elt F .bf16) (t : Fin 4) (h : Fin 8) :
    FVec F S256x128 .bf16 :=
  k1_pay6 (bias w t) (qTile q t h) (kTile k t h) (kTile v t h)

/-- The whole array of contexts. -/
def ctx (w : BitVec 32) (q : S1024x1024.Idx → Elt F .bf16) (k v : S1280x1024.Idx → Elt F .bf16) (i : S1024x1024.Idx) : Elt F .bf16 :=
  headTile w q k v ⟨(i 0).val / 256, by have h0 : (i 0).val < 1024 := (i 0).isLt; omega⟩
    ⟨(i 1).val / 128, by have h1 : (i 1).val < 1024 := (i 1).isLt; omega⟩
    (ix2 (n0 := 256) (n1 := 128) ⟨(i 0).val % 256, Nat.mod_lt _ (by decide)⟩ ⟨(i 1).val % 128, Nat.mod_lt _ (by decide)⟩)

theorem ctx_at (w : BitVec 32) (q : S1024x1024.Idx → Elt F .bf16) (k v : S1280x1024.Idx → Elt F .bf16) (t : Fin 4) (h : Fin 8)
    (i : S1024x1024.Idx) (j : S256x128.Idx) (h0 : (i 0).val = 256 * t.val + (j 0).val) (h1 : (i 1).val = 128 * h.val + (j 1).val) :
    ctx w q k v i = headTile w q k v t h j := by
  have a0 : (j 0).val < 256 := (j 0).isLt
  have a1 : (j 1).val < 128 := (j 1).isLt
  unfold ctx
  have et : (⟨(i 0).val / 256, by have h0 : (i 0).val < 1024 := (i 0).isLt; omega⟩ : Fin 4) = t := Fin.ext (by show (i 0).val / 256 = t.val; omega)
  have eh : (⟨(i 1).val / 128, by have h1 : (i 1).val < 1024 := (i 1).isLt; omega⟩ : Fin 8) = h := Fin.ext (by show (i 1).val / 128 = h.val; omega)
  rw [et, eh]
  refine congrArg (headTile w q k v t h) (funext fun a => Fin.ext ?_)
  match a with
  | ⟨0, _⟩ => exact (by show (i 0).val % 256 = (j 0).val; omega)
  | ⟨1, _⟩ => exact (by show (i 1).val % 128 = (j 1).val; omega)

theorem slice_tile (q : S1024x1024.Idx → Elt F .bf16) (t : Fin 4) (h : Fin 8) {off : Fin 2 → ℕ} (sl : S1024x1024.Slices off S256x128)
    (h0 : off 0 = 256 * t.val) (h1 : off 1 = 128 * h.val) : extractStridedSlice S256x128 off q sl = qTile q t h := by
  funext j
  refine extractStridedSlice_apply off q sl j _ fun a => ?_
  match a with
  | ⟨0, _⟩ => exact (by show 256 * t.val + (j 0).val = off 0 + (j 0).val; omega)
  | ⟨1, _⟩ => exact (by show 128 * h.val + (j 1).val = off 1 + (j 1).val; omega)

theorem kf_tile (k : S1280x1024.Idx → Elt F .bf16) (t : Fin 4) (h : Fin 8) {off : Fin 2 → ℕ} (inb : ∀ a, off a + S512x128.size a ≤ S1280x1024.size a)
    (h0 : off 0 = 256 * t.val) (h1 : off 1 = 128 * h.val) :
    kfM.view.readAt (Elt F) (Rect.unit (s := S1280x1024) off S512x128.size inb).toLoadRect k = kTile k t h := by
  funext j
  refine congrArg k (funext fun a => Fin.ext ?_)
  match a with
  | ⟨0, _⟩ => exact (by show off 0 + 1 * (j 0).val = 256 * t.val + (j 0).val; omega)
  | ⟨1, _⟩ => exact (by show off 1 + 1 * (j 1).val = 128 * h.val + (j 1).val; omega)
theorem vf_tile (k : S1280x1024.Idx → Elt F .bf16) (t : Fin 4) (h : Fin 8) {off : Fin 2 → ℕ} (inb : ∀ a, off a + S512x128.size a ≤ S1280x1024.size a)
    (h0 : off 0 = 256 * t.val) (h1 : off 1 = 128 * h.val) :
    vfM.view.readAt (Elt F) (Rect.unit (s := S1280x1024) off S512x128.size inb).toLoadRect k = kTile k t h :=
  kf_tile k t h inb h0 h1

/-- A stored tile agrees with the array of contexts. -/
theorem tile_agrees (w : BitVec 32) (q : S1024x1024.Idx → Elt F .bf16) (k v : S1280x1024.Idx → Elt F .bf16) (t : Fin 4) (h : Fin 8)
    {off : Fin 2 → ℕ} {inb : ∀ a, off a + S256x128.size a ≤ S1024x1024.size a} {pay : FVec F S256x128 .bf16}
    (h0 : off 0 = 256 * t.val) (h1 : off 1 = 128 * h.val) (hp : pay = headTile w q k v t h) :
    ∀ x : S256x128.Idx, pay x = ctx w q k v ((Rect.unit (s := S1024x1024) off S256x128.size inb).emb x) := by
  intro x
  rw [hp]
  refine (ctx_at w q k v t h _ x ?_ ?_).symm
  · show off 0 + 1 * (x 0).val = _; omega
  · show off 1 + 1 * (x 1).val = _; omega

theorem tile_pay {w : BitVec 32} {q : S1024x1024.Idx → Elt F .bf16} {k v : S1280x1024.Idx → Elt F .bf16} {t : Fin 4} {h : Fin 8}
    {b : FVec F S256x512 .bf16} {qs : FVec F S256x128 .bf16} {ks vs : Vec F S512x128 .bf16} (hb : b = bias w t) (hq : qs = qTile q t h)
    (hk : ks = kTile k t h) (hv : vs = kTile v t h) : k1_pay6 b qs ks vs = headTile w q k v t h := by
  subst hb hq hk hv; rfl

theorem bias_0 (w : BitVec 32) : k1_pay30 (k1_pay29 w (iota .tc S256x512 32 [1] iota_S256x512_d1_w32) k1_pay3) (Scalar.ofBits .f32 0x00000000#32)
    (Named.named κ "mask" 0xCE6E6B28#32) = bias (F := F) w 0 := (if_pos rfl).symm
theorem bias_1 (w : BitVec 32) : k1_pay4 = bias (F := F) w 1 := ((if_neg (by decide)).trans (if_neg (by decide))).symm
theorem bias_2 (w : BitVec 32) : k1_pay4 = bias (F := F) w 2 := ((if_neg (by decide)).trans (if_neg (by decide))).symm
theorem bias_3 (w : BitVec 32) : k1_pay43 w (iota .tc S256x512 32 [1] iota_S256x512_d1_w32) k1_pay3 = bias (F := F) w 3 :=
  ((if_neg (by decide)).trans (if_pos rfl)).symm

theorem mem_tile {a b : ℕ} {inb : ∀ x, (![a, b] : Fin 2 → ℕ) x + S256x128.size x ≤ S1024x1024.size x} (y : S1024x1024.Idx)
    (h0 : a ≤ (y 0).val ∧ (y 0).val < a + 256) (h1 : b ≤ (y 1).val ∧ (y 1).val < b + 128) :
    y ∈ (Rect.unit (s := S1024x1024) ![a, b] S256x128.size inb).set := by
  rw [Rect.mem_set_unit]
  intro x
  match x with
  | ⟨0, _⟩ => exact h0
  | ⟨1, _⟩ => exact h1

/-- Read whole, an array written in tiles that agree with the array of contexts is that array. -/
theorem read_ctx (L : List (View.Piece (Elt F) S1024x1024 .bf16)) (w : BitVec 32) (q : S1024x1024.Idx → Elt F .bf16)
    (k v : S1280x1024.Idx → Elt F .bf16) (inb : ∀ a, (![0, 0] : Fin 2 → ℕ) a + S1024x1024.size a ≤ S1024x1024.size a)
    (hG : ∀ p ∈ L, ∀ x : p.1.shape.Idx, p.2 x = ctx w q k v (p.1.emb x))
    (hc : ∀ y : S1024x1024.Idx, ∃ p ∈ L, y ∈ p.1.set) :
    (Memref.whole cc1_scratch2).view.readCov L (Rect.unit (s := S1024x1024) ![0, 0] S1024x1024.size inb).toLoadRect = ctx w q k v := by
  rw [View.readCov_eq_canon']
  funext j
  rw [View.canon_apply_of_pieces _ L hG _ (hc _)]
  refine congrArg (ctx w q k v) (funext fun a => Fin.ext ?_)
  match a with
  | ⟨0, _⟩ => exact (by show 0 + 1 * (j 0).val = (j 0).val; omega)
  | ⟨1, _⟩ => exact (by show 0 + 1 * (j 1).val = (j 1).val; omega)

/-- What the attention leaves as its result, from its output projection's matrix too. -/
def result (w : BitVec 32) (q : S1024x1024.Idx → Elt F .bf16) (k v : S1280x1024.Idx → Elt F .bf16) (wo : S1024x1024.Idx → Elt F .bf16) :
    FVec F S1x1024x1024 .bf16 :=
  k1_pay1 (k1_pay56 (ctx w q k v) wo)

end Cert.KernelIdeal.Halo
-- ==== Proof.Exchange.lean ====
/-
  The attention's first and last stretches of communication on device c, each as one step of its run: the two barriers, the
  four copies to the neighbours and the two local ones; the waits for what the neighbours send.
-/
module

public import proofs.«01_k».proof.Proof.Comm
public import proofs.«01_k».proof.Proof.Values

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev qM : Memref sig .tc .vmem S1024x1024 .bf16 := Memref.whole cc1_stg0_0
abbrev woM : Memref sig .tc .vmem S1024x1024 .bf16 := Memref.whole cc1_stg1_0
abbrev outM : Memref sig .tc .vmem S1x1024x1024 .bf16 := Memref.whole cc1_stg2_0
abbrev cxM : Memref sig .tc .vmem S1024x1024 .bf16 := Memref.whole cc1_scratch2

variable (kv vv : Rows F) (K : GSem nD τ sig → ℕ) (c : Dev nD)

/-! ## Splitting the extended arrays into what each copy writes -/

theorem kf_cover : (Finset.univ : Finset S1280x1024.Idx) = rLo.set ∪ (rMid.set ∪ rHi.set) := by
  ext i
  have h0 : (i 0).val < 1280 := (i 0).isLt
  have h1 : (i 1).val < 1024 := (i 1).isLt
  simp only [Finset.mem_univ, Finset.mem_union, Rect.mem_set_unit, true_iff]
  by_cases hlo : (i 0).val < 128
  · refine .inl fun a => ?_
    match a with
    | ⟨0, _⟩ => exact ⟨Nat.zero_le _, by show (i 0).val < 0 + 128; omega⟩
    | ⟨1, _⟩ => exact ⟨Nat.zero_le _, by show (i 1).val < 0 + 1024; omega⟩
  by_cases hmid : (i 0).val < 1152
  · refine .inr (.inl fun a => ?_)
    match a with
    | ⟨0, _⟩ => exact ⟨by show 128 ≤ (i 0).val; omega, by show (i 0).val < 128 + 1024; omega⟩
    | ⟨1, _⟩ => exact ⟨Nat.zero_le _, by show (i 1).val < 0 + 1024; omega⟩
  · refine .inr (.inr fun a => ?_)
    match a with
    | ⟨0, _⟩ => exact ⟨by show 1152 ≤ (i 0).val; omega, by show (i 0).val < 1152 + 128; omega⟩
    | ⟨1, _⟩ => exact ⟨Nat.zero_le _, by show (i 1).val < 0 + 1024; omega⟩

theorem lo_mid : Disjoint rLo.set rMid.set := Rect.unit_disjoint 0 (.inl (by decide))
theorem lo_hi : Disjoint rLo.set rHi.set := Rect.unit_disjoint 0 (.inl (by decide))
theorem mid_hi : Disjoint rMid.set rHi.set := Rect.unit_disjoint 0 (.inl (by decide))
theorem lo_rest : Disjoint rLo.set (rMid.set ∪ rHi.set) := Finset.disjoint_union_right.mpr ⟨lo_mid, lo_hi⟩
theorem top_bot : Disjoint rTop.set rBot.set := Rect.unit_disjoint 0 (.inl (by decide))

theorem split_kf (f : Buf (Elt F) (kfM.view.loc (c : Thread nD τ))) :
    (kfM.view.loc (c : Thread nD τ) ↦{fullShare} f : sProp 𝕄)
      ⊣⊢ iprop(pv c kLoM fullShare f ∗ pv c kMidM fullShare f ∗ pv c kHiM fullShare f) := by
  unfold pv
  rw [View.set_slice_whole, View.set_slice_whole, View.set_slice_whole]
  refine (BiEntails.of_eq (congrArg (fun S : Finset S1280x1024.Idx => (kfM.view.loc (c : Thread nD τ) ↦[S]{fullShare} f : sProp 𝕄)) kf_cover)).trans ?_
  exact (pointsTo_union lo_rest).trans (sep_congr_right (pointsTo_union mid_hi))
theorem split_vf (f : Buf (Elt F) (vfM.view.loc (c : Thread nD τ))) :
    (vfM.view.loc (c : Thread nD τ) ↦{fullShare} f : sProp 𝕄)
      ⊣⊢ iprop(pv c vLoM fullShare f ∗ pv c vMidM fullShare f ∗ pv c vHiM fullShare f) := by
  unfold pv
  rw [View.set_slice_whole, View.set_slice_whole, View.set_slice_whole]
  refine (BiEntails.of_eq (congrArg (fun S : Finset S1280x1024.Idx => (vfM.view.loc (c : Thread nD τ) ↦[S]{fullShare} f : sProp 𝕄)) kf_cover)).trans ?_
  exact (pointsTo_union lo_rest).trans (sep_congr_right (pointsTo_union mid_hi))

/-- What no copy to a neighbour reads of the keys. -/
abbrev rest_k (f : Buf (Elt F) (kM.view.loc (c : Thread nD τ))) : sProp 𝕄 :=
  kM.view.loc (c : Thread nD τ) ↦[(Finset.univ \ rTop.set) \ rBot.set]{fullShare.right} f
theorem split_k (f : Buf (Elt F) (kM.view.loc (c : Thread nD τ))) :
    (kM.view.loc (c : Thread nD τ) ↦{fullShare} f : sProp 𝕄)
      ⊣⊢ iprop(pv c kM fullShare.left f ∗ pv c kTopM fullShare.right f ∗ pv c kBotM fullShare.right f ∗ rest_k c f) := by
  unfold pv rest_k
  rw [View.set_slice_whole, View.set_slice_whole, View.set_whole]
  refine (pointsTo_share (PosShare.mem_left_op_right fullShare)).trans (sep_congr_right ?_)
  refine (pointsTo_split_subset (Finset.subset_univ rTop.set)).trans (sep_congr_right ?_)
  exact pointsTo_split_subset fun i hi => Finset.mem_sdiff.mpr ⟨Finset.mem_univ i, fun h => Finset.disjoint_left.mp top_bot h hi⟩
/-- What no copy to a neighbour reads of the values. -/
abbrev rest_v (f : Buf (Elt F) (vM.view.loc (c : Thread nD τ))) : sProp 𝕄 :=
  vM.view.loc (c : Thread nD τ) ↦[(Finset.univ \ rTop.set) \ rBot.set]{fullShare.right} f
theorem split_v (f : Buf (Elt F) (vM.view.loc (c : Thread nD τ))) :
    (vM.view.loc (c : Thread nD τ) ↦{fullShare} f : sProp 𝕄)
      ⊣⊢ iprop(pv c vM fullShare.left f ∗ pv c vTopM fullShare.right f ∗ pv c vBotM fullShare.right f ∗ rest_v c f) := by
  unfold pv rest_v
  rw [View.set_slice_whole, View.set_slice_whole, View.set_whole]
  refine (pointsTo_share (PosShare.mem_left_op_right fullShare)).trans (sep_congr_right ?_)
  refine (pointsTo_split_subset (Finset.subset_univ rTop.set)).trans (sep_congr_right ?_)
  exact pointsTo_split_subset fun i hi => Finset.mem_sdiff.mpr ⟨Finset.mem_univ i, fun h => Finset.disjoint_left.mp top_bot h hi⟩

/-! ## Up to the local copies' waits -/

abbrev at10 : sProp 𝕄 :=
  bigSep Finset.univ fun k : Fin 10 => iprop(atPos ER ((c : Thread nD τ), osem k) 0 ∅ 0 ∗ reached ER ((c : Thread nD τ), osem k) 0)

theorem at10_eq : (at10 c : sProp 𝕄) =
    iprop((atPos ER (dmaCell c 6) 0 ∅ 0 ∗ reached ER (dmaCell c 6) 0) ∗ (atPos ER (dmaCell c 7) 0 ∅ 0 ∗ reached ER (dmaCell c 7) 0)
      ∗ (atPos ER (dmaCell c 8) 0 ∅ 0 ∗ reached ER (dmaCell c 8) 0) ∗ (atPos ER (dmaCell c 9) 0 ∅ 0 ∗ reached ER (dmaCell c 9) 0)
      ∗ (atPos ER (dmaCell c 10) 0 ∅ 0 ∗ reached ER (dmaCell c 10) 0) ∗ (atPos ER (dmaCell c 11) 0 ∅ 0 ∗ reached ER (dmaCell c 11) 0)
      ∗ (atPos ER (dmaCell c 12) 0 ∅ 0 ∗ reached ER (dmaCell c 12) 0) ∗ (atPos ER (dmaCell c 13) 0 ∅ 0 ∗ reached ER (dmaCell c 13) 0)
      ∗ (atPos ER (dmaCell c 14) 0 ∅ 0 ∗ reached ER (dmaCell c 14) 0) ∗ (atPos ER (dmaCell c 15) 0 ∅ 0 ∗ reached ER (dmaCell c 15) 0)) := by
  unfold at10
  rw [show (Finset.univ : Finset (Fin 10)) = {0, 1, 2, 3, 4, 5, 6, 7, 8, 9} from by decide,
    bigSep_insert (by decide), bigSep_insert (by decide), bigSep_insert (by decide), bigSep_insert (by decide), bigSep_insert (by decide),
    bigSep_insert (by decide), bigSep_insert (by decide), bigSep_insert (by decide), bigSep_insert (by decide), bigSep_singleton]
  rfl

end Cert.KernelIdeal.Halo
-- ==== Proof.Run.lean ====
/-
  The attention's run on device c: from its rows, its neighbours' and the queries to the result.
-/
module

public import proofs.«01_k».proof.Proof.Exchange
public import Idealize.ShloMosaic.Lib.Exec
public import Idealize.ShloMosaic.Lib.VecWindow

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv vv : Rows F) (K : GSem nD τ sig → ℕ) (c : Dev nD)

theorem mid_kf (f : Buf (Elt F) (kfM.view.loc (c : Thread nD τ))) :
    (pv c kMidM fullShare f : sProp 𝕄) ⊣⊢ (kfM.view.loc (c : Thread nD τ) ↦[kfM.view.setOn rMid.set]{fullShare} f) := BiEntails.of_eq (by
  unfold pv
  rw [View.set_slice]
  rfl)
theorem mid_vf (f : Buf (Elt F) (vfM.view.loc (c : Thread nD τ))) :
    (pv c vMidM fullShare f : sProp 𝕄) ⊣⊢ (vfM.view.loc (c : Thread nD τ) ↦[vfM.view.setOn rMid.set]{fullShare} f) := BiEntails.of_eq (by
  unfold pv
  rw [View.set_slice]
  rfl)
theorem got6 : (dmaPay kv vv c 6 : sProp 𝕄) ⊢ iprop(pv c kTopM fullShare.right (kv c)) := BI.Entails.refl _
theorem got7 : (dmaPay kv vv c 7 : sProp 𝕄) ⊢ iprop(pv c vTopM fullShare.right (vv c)) := BI.Entails.refl _
theorem got8 : (dmaPay kv vv c 8 : sProp 𝕄) ⊢ iprop(pv c kBotM fullShare.right (kv c)) := BI.Entails.refl _
theorem got9 : (dmaPay kv vv c 9 : sProp 𝕄) ⊢ iprop(pv c vBotM fullShare.right (vv c)) := BI.Entails.refl _
theorem got10 : (dmaPay kv vv c 10 : sProp 𝕄) ⊢ iprop(pv c kHiM fullShare (full kv c)) := BI.Entails.refl _
theorem got11 : (dmaPay kv vv c 11 : sProp 𝕄) ⊢ iprop(pv c vHiM fullShare (full vv c)) := BI.Entails.refl _
theorem got12 : (dmaPay kv vv c 12 : sProp 𝕄) ⊢ iprop(pv c kLoM fullShare (full kv c)) := BI.Entails.refl _
theorem got13 : (dmaPay kv vv c 13 : sProp 𝕄) ⊢ iprop(pv c vLoM fullShare (full vv c)) := BI.Entails.refl _
theorem got14 : (dmaPay kv vv c 14 : sProp 𝕄) ⊢ iprop(pv c kMidM fullShare (full kv c) ∗ pv c kM fullShare.left (kv c)) := BI.Entails.refl _
theorem got15 : (dmaPay kv vv c 15 : sProp 𝕄) ⊢ iprop(pv c vMidM fullShare (full vv c) ∗ pv c vM fullShare.left (vv c)) := BI.Entails.refl _

theorem q_read {F : FTy → Type} (q : S1024x1024.Idx → Elt F .bf16) :
    qM.view.readAt (Elt F) (Rect.unit (s := S1024x1024) ![0, 0] S1024x1024.size inb_S1024x1024_S1024x1024_0_0).toLoadRect q = q :=
  Memref.readAt_unit_zero (Elt F) cc1_stg0_0 (by decide) _ q

theorem wp_load_q (q : S1024x1024.Idx → Elt F .bf16) {h} {α : Type} {k : Vec F S1024x1024 .bf16 → Prog (TpuEff nD τ sig (Elt F) Λ₀ .tc) α}
    {Q : α → sProp (MT nD τ sig Unit (Elt F) ℕ UU ℕ)} :
    (qM.view.loc (c : Thread nD τ) ↦{fullShare} q) ⊢ iprop(((qM.view.loc (c : Thread nD τ) ↦{fullShare} q)
          -∗ wp frame (wpE (defs₀ (F := F)) 𝒱₀ c none) Set.univ (k q) Q)
      -∗ wp frame (wpE (defs₀ (F := F)) 𝒱₀ c none) Set.univ
          (.op (.load qM (Rect.unit (s := S1024x1024) ![0, 0] S1024x1024.size inb_S1024x1024_S1024x1024_0_0).toLoadRect h) k) Q) := by
  have e := wp_load (Γ := PendingWaitsCtx.empty) (defs := defs₀ (F := F)) (hl := h) (k := k) (Q := Q) 𝒱₀ (c : Thread nD τ) none Set.univ (m := qM) (f := q) (S := Finset.univ) (q := fullShare)
    (r := (Rect.unit (s := S1024x1024) ![0, 0] S1024x1024.size inb_S1024x1024_S1024x1024_0_0).toLoadRect) (Finset.subset_univ _)
  rw [q_read] at e
  exact e

theorem fold_cx (f : Buf (Elt F) (cxM.view.loc (c : Thread nD τ))) :
    ((View.whole cc1_scratch2).loc (c : Thread nD τ) ↦{fullShare} f : sProp 𝕄) ⊢ (cxM.view.loc (c : Thread nD τ) ↦{fullShare} f) := .rfl
theorem fold_wo (f : Buf (Elt F) (woM.view.loc (c : Thread nD τ))) :
    ((View.whole cc1_stg1_0).loc (c : Thread nD τ) ↦{fullShare} f : sProp 𝕄) ⊢ (woM.view.loc (c : Thread nD τ) ↦{fullShare} f) := .rfl
theorem fold_out (f : Buf (Elt F) (outM.view.loc (c : Thread nD τ))) :
    ((View.whole cc1_stg2_0).loc (c : Thread nD τ) ↦{fullShare} f : sProp 𝕄) ⊢ (outM.view.loc (c : Thread nD τ) ↦{fullShare} f) := .rfl

theorem owed_last : (debt c (tallyAt (dmaCell (rgt c) 13) () N) : sProp 𝕄) ⊢ debt c (0 + tallyAt (dmaCell (rgt c) 13) () N) := by
  rw [zero_add]

theorem woM_read {F : FTy → Type} (wo : S1024x1024.Idx → Elt F .bf16) :
    woM.view.readAt (Elt F) (Rect.unit (s := S1024x1024) ![0, 0] S1024x1024.size inb_S1024x1024_S1024x1024_0_0).toLoadRect wo = wo :=
  Memref.readAt_unit_zero (Elt F) cc1_stg1_0 (by decide) _ wo
theorem out_written {F : FTy → Type} (fo w : S1x1024x1024.Idx → Elt F .bf16) :
    outM.view.writes (Elt F) fo [⟨Rect.unit (s := S1x1024x1024) ![0, 0, 0] S1x1024x1024.size inb_S1x1024x1024_S1x1024x1024_0_0_0, w⟩] = w := by
  have e := View.read_writes_full outM.view fo inb_S1x1024x1024_S1x1024x1024_0_0_0 w []
  generalize outM.view.writes (Elt F) fo [⟨Rect.unit (s := S1x1024x1024) ![0, 0, 0] S1x1024x1024.size inb_S1x1024x1024_S1x1024x1024_0_0_0, w⟩] = z at e ⊢
  exact e

theorem sv10_eq : (bigSep Finset.univ fun k : Fin 10 => semVal ((c : Thread nD τ), osem k) 0 : sProp 𝕄) =
    iprop(semVal (dmaCell c 6) 0 ∗ semVal (dmaCell c 7) 0 ∗ semVal (dmaCell c 8) 0 ∗ semVal (dmaCell c 9) 0 ∗ semVal (dmaCell c 10) 0
      ∗ semVal (dmaCell c 11) 0 ∗ semVal (dmaCell c 12) 0 ∗ semVal (dmaCell c 13) 0 ∗ semVal (dmaCell c 14) 0 ∗ semVal (dmaCell c 15) 0) := by
  rw [show (Finset.univ : Finset (Fin 10)) = {0, 1, 2, 3, 4, 5, 6, 7, 8, 9} from by decide,
    bigSep_insert (by decide), bigSep_insert (by decide), bigSep_insert (by decide), bigSep_insert (by decide), bigSep_insert (by decide),
    bigSep_insert (by decide), bigSep_insert (by decide), bigSep_insert (by decide), bigSep_insert (by decide), bigSep_singleton]
  rfl

/-- What the run leaves on device `c`: nothing owed, its counters at zero, its arrays as they were, its result. -/
def done (q wo : S1024x1024.Idx → Elt F .bf16) : sProp 𝕄 :=
  iprop(debt c 0 ∗ semVal (barCell c) 0 ∗ (bigSep Finset.univ fun k : Fin 10 => semVal ((c : Thread nD τ), osem k) 0)
    ∗ (kM.view.loc (c : Thread nD τ) ↦{fullShare} kv c) ∗ (vM.view.loc (c : Thread nD τ) ↦{fullShare} vv c)
    ∗ (qM.view.loc (c : Thread nD τ) ↦{fullShare} q) ∗ (woM.view.loc (c : Thread nD τ) ↦{fullShare} wo)
    ∗ (outM.view.loc (c : Thread nD τ) ↦{fullShare} result (pos c) q (full kv c) (full vv c) wo)
    ∗ (∃ f, kfM.view.loc (c : Thread nD τ) ↦{fullShare} f)
    ∗ (∃ f, vfM.view.loc (c : Thread nD τ) ↦{fullShare} f) ∗ (∃ f, cxM.view.loc (c : Thread nD τ) ↦{fullShare} f))

set_option maxHeartbeats 1600000 in
theorem run (q wo : S1024x1024.Idx → Elt F .bf16) (Q : PUnit → sProp (MT nD τ sig Unit (Elt F) ℕ UU ℕ)) :
    iprop(opened kv vv K c ∗ levAts L lv ∗ credits c ∗ debt c (O₀ c)
        ∗ (kM.view.loc (c : Thread nD τ) ↦{fullShare} kv c) ∗ (vM.view.loc (c : Thread nD τ) ↦{fullShare} vv c)
        ∗ (qM.view.loc (c : Thread nD τ) ↦{fullShare} q) ∗ (woM.view.loc (c : Thread nD τ) ↦{fullShare} wo)
        ∗ (∃ f, outM.view.loc (c : Thread nD τ) ↦{fullShare} f) ∗ (∃ f, kfM.view.loc (c : Thread nD τ) ↦{fullShare} f)
        ∗ (∃ f, vfM.view.loc (c : Thread nD τ) ↦{fullShare} f) ∗ (∃ f, cxM.view.loc (c : Thread nD τ) ↦{fullShare} f)
        ∗ (done kv vv c q wo -∗ Q ⟨⟩))
      ⊢ wp frame (wpE (defs₀ (F := F)) 𝒱₀ c none) Set.univ
          (cc1_body qM (Memref.isWhole_whole _) kM (Memref.isWhole_whole _) vM (Memref.isWhole_whole _) woM (Memref.isWhole_whole _)
            outM (Memref.isWhole_whole _) kfM (Memref.isWhole_whole _) vfM (Memref.isWhole_whole _) cxM (Memref.isWhole_whole _)
            cc1_scratch3 cc1_scratch4 cc1_scratch5) Q := by
  unfold opened credits pays
  rw [show (bigSep Finset.univ fun k : Fin 10 => iprop(atPos ER ((c : Thread nD τ), osem k) 0 ∅ 0 ∗ reached ER ((c : Thread nD τ), osem k) 0) : sProp 𝕄) = _ from at10_eq c]
  iintro ⟨⟨#HR, Hat, ⟨⟨Ha6, #Hr6⟩, ⟨Ha7, #Hr7⟩, ⟨Ha8, #Hr8⟩, ⟨Ha9, #Hr9⟩, ⟨Ha10, #Hr10⟩, ⟨Ha11, #Hr11⟩, ⟨Ha12, #Hr12⟩, ⟨Ha13, #Hr13⟩, ⟨Ha14, #Hr14⟩, ⟨Ha15, #Hr15⟩⟩,
      Htl, Htr, Ht6, Ht7, Ht8, Ht9, Ht10, Ht11, Ht12, Ht13, Ht14, Ht15⟩, #Hlev, ⟨Hcb, Hc10, Hc11, Hc12, Hc13⟩, HO,
    Hk, Hv, Hq, Hwo, ⟨%fo, Hout⟩, ⟨%kf, Hkf⟩, ⟨%vf, Hvf⟩, ⟨%cx, Hcx⟩, HQ⟩
  ihave Hk := (split_k c _).1 $$ Hk
  icases Hk with ⟨HkM, HkTop, HkBot, HkRest⟩
  ihave Hv := (split_v c _).1 $$ Hv
  icases Hv with ⟨HvM, HvTop, HvBot, HvRest⟩
  ihave Hkf := (split_kf c _).1 $$ Hkf
  icases Hkf with ⟨HkLo, HkMid, HkHi⟩
  ihave Hvf := (split_vf c _).1 $$ Hvf
  icases Hvf with ⟨HvLo, HvMid, HvHi⟩
  rw [cc1_body_eq_skeleton]
  unfold cc1_body_skel
  rw [k1_part22_eq_skeleton]
  unfold k1_part22_skel
  rw [k1_part1_eq_skeleton]
  unfold k1_part1_skel
  simp only [semSignalWord, semWaitWord, Prog.lift, Prog.bind_op, Prog.bind_ret, Prog.pure_eq_ret, wp_deviceId]
  iapply (wp_raise_left kv vv K c (dev1 c)) $$ [HO Htl HkLo HvLo]
  · isplitr; · iexact HR
    isplitl [HO]; · iexact HO
    isplitl [Htl]; · iexact Htl
    isplitl [HkLo]; · iexists _; iexact HkLo
    isplitl [HvLo]; · iexists _; iexact HvLo
    isplitr; · iexact Hr12
    iexact Hr13
  iintro HO
  iapply (wp_raise_right kv vv K c (dev2 c)) $$ [HO Htr HkHi HvHi]
  · isplitr; · iexact HR
    isplitl [HO]; · iexact HO
    isplitl [Htr]; · iexact Htr
    isplitl [HkHi]; · iexists _; iexact HkHi
    isplitl [HvHi]; · iexists _; iexact HvHi
    isplitr; · iexact Hr10
    iexact Hr11
  iintro HO
  iapply (wp_wait_both kv vv K c) $$ [HO Hcb Hat]
  · isplitr; · iexact HR
    isplitr; · iexact Hlev
    isplitl [HO]; · iexact HO
    isplitl [Hcb] <;> iassumption
  iintro ⟨HO, Hat, Hp0, Hp1⟩
  unfold barPay
  icases Hp0 with ⟨HkLo, HvLo, #Hrr12, #Hrr13⟩
  icases Hp1 with ⟨HkHi, HvHi, #Hrl10, #Hrl11⟩
  unfold O₁
  rw [k1_part2_eq_skeleton]
  unfold k1_part2_skel
  simp only [Prog.lift, Prog.bind_op, Prog.bind_ret, Prog.pure_eq_ret]
  iapply (wp_send_rows kv vv K c (src := kTopM) (dst := kHiM) (lft c) (dev3 c) 6 10 (by decide) (by decide) (by decide) (by decide) send_sem0 recv_sem0
      (kv c) rfl (pay_kTop kv vv c) (fun fd => pay_kHi kv vv c fd) (tallyAt (dmaCell (rgt c) 13) () N + tallyAt (dmaCell (rgt c) 12) () N + tallyAt (dmaCell (lft c) 11) () N)) $$ [HO HkTop HkHi Ht6 Ht10]
  · isplitr; · iexact HR
    isplitl [HkTop]; · iexact HkTop
    isplitl [HkHi]; · iexact HkHi
    isplitl [HO]; · iexact HO
    isplitl [Ht6]; · iexact Ht6
    isplitr; · iexact Hr6
    isplitl [Ht10]; · iexact Ht10
    iexact Hrl10
  iintro ⟨Hc6, HO⟩
  iapply (wp_send_rows kv vv K c (src := vTopM) (dst := vHiM) (lft c) (dev4 c) 7 11 (by decide) (by decide) (by decide) (by decide) send_sem1 recv_sem1
      (vv c) rfl (pay_vTop kv vv c) (fun fd => pay_vHi kv vv c fd) (tallyAt (dmaCell (rgt c) 13) () N + tallyAt (dmaCell (rgt c) 12) () N)) $$ [HO HvTop HvHi Ht7 Ht11]
  · isplitr; · iexact HR
    isplitl [HvTop]; · iexact HvTop
    isplitl [HvHi]; · iexact HvHi
    isplitl [HO]; · iexact HO
    isplitl [Ht7]; · iexact Ht7
    isplitr; · iexact Hr7
    isplitl [Ht11]; · iexact Ht11
    iexact Hrl11
  iintro ⟨Hc7, HO⟩
  iapply (wp_send_rows kv vv K c (src := kBotM) (dst := kLoM) (rgt c) (dev5 c) 8 12 (by decide) (by decide) (by decide) (by decide) send_sem2 recv_sem2
      (kv c) rfl (pay_kBot kv vv c) (fun fd => pay_kLo kv vv c fd) (tallyAt (dmaCell (rgt c) 13) () N)) $$ [HO HkBot HkLo Ht8 Ht12]
  · isplitr; · iexact HR
    isplitl [HkBot]; · iexact HkBot
    isplitl [HkLo]; · iexact HkLo
    isplitl [HO]; · iexact HO
    isplitl [Ht8]; · iexact Ht8
    isplitr; · iexact Hr8
    isplitl [Ht12]; · iexact Ht12
    iexact Hrr12
  iintro ⟨Hc8, HO⟩
  rw [k1_part3_eq_skeleton]
  unfold k1_part3_skel
  simp only [Prog.lift, Prog.bind_op, Prog.bind_ret, Prog.pure_eq_ret]
  ihave HO := (owed_last c) $$ HO
  iapply (wp_send_rows kv vv K c (src := vBotM) (dst := vLoM) (rgt c) (dev6 c) 9 13 (by decide) (by decide) (by decide) (by decide) send_sem3 recv_sem3
      (vv c) rfl (pay_vBot kv vv c) (fun fd => pay_vLo kv vv c fd) 0) $$ [HO HvBot HvLo Ht9 Ht13]
  · isplitr; · iexact HR
    isplitl [HvBot]; · iexact HvBot
    isplitl [HvLo]; · iexact HvLo
    isplitl [HO]; · iexact HO
    isplitl [Ht9]; · iexact Ht9
    isplitr; · iexact Hr9
    isplitl [Ht13]; · iexact Ht13
    iexact Hrr13
  iintro ⟨Hc9, HO⟩
  iapply (wp_copy_rows kv vv K c (src := kM) (dst := kMidM) 14 (by decide) (by decide) copy_sem0 (kv c) rfl (fun fd => pay_kMid kv vv c fd)) $$ [HkM HkMid Ht14]
  · isplitr; · iexact HR
    isplitl [HkM]; · iexact HkM
    isplitl [HkMid]; · iexists _; iexact HkMid
    isplitl [Ht14]; · iexact Ht14
    iexact Hr14
  iintro Hc14
  iapply (wp_copy_rows kv vv K c (src := vM) (dst := vMidM) 15 (by decide) (by decide) copy_sem1 (vv c) rfl (fun fd => pay_vMid kv vv c fd)) $$ [HvM HvMid Ht15]
  · isplitr; · iexact HR
    isplitl [HvM]; · iexact HvM
    isplitl [HvMid]; · iexists _; iexact HvMid
    isplitl [Ht15]; · iexact Ht15
    iexact Hr15
  iintro Hc15
  iapply (wp_load_q c q) $$ Hq
  iintro Hq
  iapply (wp_wait_cell kv vv K c (src := kM) (dst := kMidM) 14 (by decide) (by decide) copy_sem0 M (expect_M kv vv c 14 (by decide) (by decide)) rfl) $$ [HO Hc14 Ha14]
  · isplitr; · iexact HR
    isplitl [HO]; · iexact HO
    isplitl [Hc14] <;> iassumption
  iintro ⟨HO, Ha14, Hp⟩
  ihave Hp := (got14 kv vv c) $$ Hp
  icases Hp with ⟨HkMid, HkM⟩
  iapply (wp_wait_cell kv vv K c (src := vM) (dst := vMidM) 15 (by decide) (by decide) copy_sem1 M (expect_M kv vv c 15 (by decide) (by decide)) rfl) $$ [HO Hc15 Ha15]
  · isplitr; · iexact HR
    isplitl [HO]; · iexact HO
    isplitl [Hc15] <;> iassumption
  iintro ⟨HO, Ha15, Hp⟩
  ihave Hp := (got15 kv vv c) $$ Hp
  icases Hp with ⟨HvMid, HvM⟩
  simp only [pay2_eq, pay5_eq, k1_part4_eq_skeleton, k1_part5_eq_skeleton, k1_part6_eq_skeleton, k1_part7_eq_skeleton, k1_part8_eq_skeleton, k1_part9_eq_skeleton, k1_part10_eq_skeleton, k1_part11_eq_skeleton]
  unfold k1_part4_skel k1_part5_skel k1_part6_skel k1_part7_skel k1_part8_skel k1_part9_skel k1_part10_skel k1_part11_skel
  simp only [Prog.lift, Prog.bind_op, Prog.bind_ret, Prog.pure_eq_ret]
  ihave HkMid := (mid_kf c _).1 $$ HkMid
  ihave HvMid := (mid_vf c _).1 $$ HvMid
  ihave Hcx := (fold_cx c _) $$ Hcx
  ihave Hwo := (fold_wo c _) $$ Hwo
  ihave Hout := (fold_out c _) $$ Hout
  set_option sl_exec.stopBefore "k1_part12" in sl_exec

  ihave HkMid := (mid_kf c _).2 $$ HkMid
  ihave HvMid := (mid_vf c _).2 $$ HvMid
  rw [k1_part12_eq_skeleton]
  unfold k1_part12_skel
  simp only [Prog.lift, Prog.bind_op, Prog.bind_ret, Prog.pure_eq_ret]
  iapply (wp_wait_cell kv vv K c (src := kHiM) (dst := kTopM) 6 (by decide) (by decide) send_sem0 N (expect_N kv vv c 6 (by decide) (by decide) (by decide)) rfl) $$ [HO Hc6 Ha6]
  · isplitr; · iexact HR
    isplitl [HO]; · iexact HO
    isplitl [Hc6] <;> iassumption
  iintro ⟨HO, Ha6, Hp⟩
  ihave HkTop := (got6 kv vv c) $$ Hp
  iapply (wp_wait_cell kv vv K c (src := kTopM) (dst := kHiM) 10 (by decide) (by decide) recv_sem0 N (expect_N kv vv c 10 (by decide) (by decide) (by decide)) rfl) $$ [HO Hc10 Ha10]
  · isplitr; · iexact HR
    isplitl [HO]; · iexact HO
    isplitl [Hc10] <;> iassumption
  iintro ⟨HO, Ha10, Hp⟩
  ihave HkHi := (got10 kv vv c) $$ Hp
  iapply (wp_wait_cell kv vv K c (src := vHiM) (dst := vTopM) 7 (by decide) (by decide) send_sem1 N (expect_N kv vv c 7 (by decide) (by decide) (by decide)) rfl) $$ [HO Hc7 Ha7]
  · isplitr; · iexact HR
    isplitl [HO]; · iexact HO
    isplitl [Hc7] <;> iassumption
  iintro ⟨HO, Ha7, Hp⟩
  ihave HvTop := (got7 kv vv c) $$ Hp
  iapply (wp_wait_cell kv vv K c (src := vTopM) (dst := vHiM) 11 (by decide) (by decide) recv_sem1 N (expect_N kv vv c 11 (by decide) (by decide) (by decide)) rfl) $$ [HO Hc11 Ha11]
  · isplitr; · iexact HR
    isplitl [HO]; · iexact HO
    isplitl [Hc11] <;> iassumption
  iintro ⟨HO, Ha11, Hp⟩
  ihave HvHi := (got11 kv vv c) $$ Hp
  iapply (wp_wait_cell kv vv K c (src := kLoM) (dst := kBotM) 8 (by decide) (by decide) send_sem2 N (expect_N kv vv c 8 (by decide) (by decide) (by decide)) rfl) $$ [HO Hc8 Ha8]
  · isplitr; · iexact HR
    isplitl [HO]; · iexact HO
    isplitl [Hc8] <;> iassumption
  iintro ⟨HO, Ha8, Hp⟩
  ihave HkBot := (got8 kv vv c) $$ Hp
  rw [k1_part13_eq_skeleton]
  unfold k1_part13_skel
  simp only [Prog.lift, Prog.bind_op, Prog.bind_ret, Prog.pure_eq_ret]
  iapply (wp_wait_cell kv vv K c (src := kBotM) (dst := kLoM) 12 (by decide) (by decide) recv_sem2 N (expect_N kv vv c 12 (by decide) (by decide) (by decide)) rfl) $$ [HO Hc12 Ha12]
  · isplitr; · iexact HR
    isplitl [HO]; · iexact HO
    isplitl [Hc12] <;> iassumption
  iintro ⟨HO, Ha12, Hp⟩
  ihave HkLo := (got12 kv vv c) $$ Hp
  iapply (wp_wait_cell kv vv K c (src := vLoM) (dst := vBotM) 9 (by decide) (by decide) send_sem3 N (expect_N kv vv c 9 (by decide) (by decide) (by decide)) rfl) $$ [HO Hc9 Ha9]
  · isplitr; · iexact HR
    isplitl [HO]; · iexact HO
    isplitl [Hc9] <;> iassumption
  iintro ⟨HO, Ha9, Hp⟩
  ihave HvBot := (got9 kv vv c) $$ Hp
  iapply (wp_wait_cell kv vv K c (src := vBotM) (dst := vLoM) 13 (by decide) (by decide) recv_sem3 N (expect_N kv vv c 13 (by decide) (by decide) (by decide)) rfl) $$ [HO Hc13 Ha13]
  · isplitr; · iexact HR
    isplitl [HO]; · iexact HO
    isplitl [Hc13] <;> iassumption
  iintro ⟨HO, Ha13, Hp⟩
  ihave HvLo := (got13 kv vv c) $$ Hp
  ihave Hkf := (split_kf c _).2 $$ [HkLo HkMid HkHi]
  · isplitl [HkLo]; · iexact HkLo
    isplitl [HkMid] <;> iassumption
  ihave Hvf := (split_vf c _).2 $$ [HvLo HvMid HvHi]
  · isplitl [HvLo]; · iexact HvLo
    isplitl [HvMid] <;> iassumption

  rw [k1_part14_eq_skeleton, k1_part15_eq_skeleton, k1_part16_eq_skeleton, k1_part17_eq_skeleton, k1_part18_eq_skeleton, k1_part19_eq_skeleton,
    k1_part20_eq_skeleton, k1_part21_eq_skeleton]
  unfold k1_part14_skel k1_part15_skel k1_part16_skel k1_part17_skel k1_part18_skel k1_part19_skel k1_part20_skel k1_part21_skel
  ihave Hcx := (fold_cx c _) $$ Hcx
  ihave Hwo := (fold_wo c _) $$ Hwo
  ihave Hout := (fold_out c _) $$ Hout
  sl_exec
  have hv : run.sl.v766 kv vv c q = ctx (pos c) q (full kv c) (full vv c) := by
    unfold run.sl.v766
    refine read_ctx _ (pos c) q (full kv c) (full vv c) _ ?_ ?_
    · unfold run.sl.Hcx_32
      dsimp only
      refine List.forall_mem_cons.mpr ⟨tile_agrees _ q _ _ 3 7 (inb := inb_S1024x1024_S256x128_768_896) rfl rfl ((pay55_eq ..).trans (tile_pay (bias_3 _) (slice_tile q 3 7 slices_S1024x1024_o768_896_S256x128 rfl rfl) (kf_tile _ 3 7 inb_S1280x1024_S512x128_768_896 rfl rfl) (vf_tile _ 3 7 inb_S1280x1024_S512x128_768_896 rfl rfl))), ?_⟩
      refine List.forall_mem_cons.mpr ⟨tile_agrees _ q _ _ 3 6 (inb := inb_S1024x1024_S256x128_768_768) rfl rfl ((pay53_eq ..).trans (tile_pay (bias_3 _) (slice_tile q 3 6 slices_S1024x1024_o768_768_S256x128 rfl rfl) (kf_tile _ 3 6 inb_S1280x1024_S512x128_768_768 rfl rfl) (vf_tile _ 3 6 inb_S1280x1024_S512x128_768_768 rfl rfl))), ?_⟩
      refine List.forall_mem_cons.mpr ⟨tile_agrees _ q _ _ 3 5 (inb := inb_S1024x1024_S256x128_768_640) rfl rfl ((pay52_eq ..).trans (tile_pay (bias_3 _) (slice_tile q 3 5 slices_S1024x1024_o768_640_S256x128 rfl rfl) (kf_tile _ 3 5 inb_S1280x1024_S512x128_768_640 rfl rfl) (vf_tile _ 3 5 inb_S1280x1024_S512x128_768_640 rfl rfl))), ?_⟩
      refine List.forall_mem_cons.mpr ⟨tile_agrees _ q _ _ 3 4 (inb := inb_S1024x1024_S256x128_768_512) rfl rfl ((pay50_eq ..).trans (tile_pay (bias_3 _) (slice_tile q 3 4 slices_S1024x1024_o768_512_S256x128 rfl rfl) (kf_tile _ 3 4 inb_S1280x1024_S512x128_768_512 rfl rfl) (vf_tile _ 3 4 inb_S1280x1024_S512x128_768_512 rfl rfl))), ?_⟩
      refine List.forall_mem_cons.mpr ⟨tile_agrees _ q _ _ 3 3 (inb := inb_S1024x1024_S256x128_768_384) rfl rfl ((pay49_eq ..).trans (tile_pay (bias_3 _) (slice_tile q 3 3 slices_S1024x1024_o768_384_S256x128 rfl rfl) (kf_tile _ 3 3 inb_S1280x1024_S512x128_768_384 rfl rfl) (vf_tile _ 3 3 inb_S1280x1024_S512x128_768_384 rfl rfl))), ?_⟩
      refine List.forall_mem_cons.mpr ⟨tile_agrees _ q _ _ 3 2 (inb := inb_S1024x1024_S256x128_768_256) rfl rfl ((pay47_eq ..).trans (tile_pay (bias_3 _) (slice_tile q 3 2 slices_S1024x1024_o768_256_S256x128 rfl rfl) (kf_tile _ 3 2 inb_S1280x1024_S512x128_768_256 rfl rfl) (vf_tile _ 3 2 inb_S1280x1024_S512x128_768_256 rfl rfl))), ?_⟩
      refine List.forall_mem_cons.mpr ⟨tile_agrees _ q _ _ 3 1 (inb := inb_S1024x1024_S256x128_768_128) rfl rfl ((pay46_eq ..).trans (tile_pay (bias_3 _) (slice_tile q 3 1 slices_S1024x1024_o768_128_S256x128 rfl rfl) (kf_tile _ 3 1 inb_S1280x1024_S512x128_768_128 rfl rfl) (vf_tile _ 3 1 inb_S1280x1024_S512x128_768_128 rfl rfl))), ?_⟩
      refine List.forall_mem_cons.mpr ⟨tile_agrees _ q _ _ 3 0 (inb := inb_S1024x1024_S256x128_768_0) rfl rfl ((pay44_eq ..).trans (tile_pay (bias_3 _) (slice_tile q 3 0 slices_S1024x1024_o768_0_S256x128 rfl rfl) (kf_tile _ 3 0 inb_S1280x1024_S512x128_768_0 rfl rfl) (vf_tile _ 3 0 inb_S1280x1024_S512x128_768_0 rfl rfl))), ?_⟩
      refine List.forall_mem_cons.mpr ⟨tile_agrees _ q _ _ 0 7 (inb := inb_S1024x1024_S256x128_0_896) rfl rfl ((pay42_eq ..).trans (tile_pay (bias_0 _) (slice_tile q 0 7 slices_S1024x1024_o0_896_S256x128 rfl rfl) (kf_tile _ 0 7 inb_S1280x1024_S512x128_0_896 rfl rfl) (vf_tile _ 0 7 inb_S1280x1024_S512x128_0_896 rfl rfl))), ?_⟩
      refine List.forall_mem_cons.mpr ⟨tile_agrees _ q _ _ 0 6 (inb := inb_S1024x1024_S256x128_0_768) rfl rfl ((pay40_eq ..).trans (tile_pay (bias_0 _) (slice_tile q 0 6 slices_S1024x1024_o0_768_S256x128 rfl rfl) (kf_tile _ 0 6 inb_S1280x1024_S512x128_0_768 rfl rfl) (vf_tile _ 0 6 inb_S1280x1024_S512x128_0_768 rfl rfl))), ?_⟩
      refine List.forall_mem_cons.mpr ⟨tile_agrees _ q _ _ 0 5 (inb := inb_S1024x1024_S256x128_0_640) rfl rfl ((pay39_eq ..).trans (tile_pay (bias_0 _) (slice_tile q 0 5 slices_S1024x1024_o0_640_S256x128 rfl rfl) (kf_tile _ 0 5 inb_S1280x1024_S512x128_0_640 rfl rfl) (vf_tile _ 0 5 inb_S1280x1024_S512x128_0_640 rfl rfl))), ?_⟩
      refine List.forall_mem_cons.mpr ⟨tile_agrees _ q _ _ 0 4 (inb := inb_S1024x1024_S256x128_0_512) rfl rfl ((pay37_eq ..).trans (tile_pay (bias_0 _) (slice_tile q 0 4 slices_S1024x1024_o0_512_S256x128 rfl rfl) (kf_tile _ 0 4 inb_S1280x1024_S512x128_0_512 rfl rfl) (vf_tile _ 0 4 inb_S1280x1024_S512x128_0_512 rfl rfl))), ?_⟩
      refine List.forall_mem_cons.mpr ⟨tile_agrees _ q _ _ 0 3 (inb := inb_S1024x1024_S256x128_0_384) rfl rfl ((pay36_eq ..).trans (tile_pay (bias_0 _) (slice_tile q 0 3 slices_S1024x1024_o0_384_S256x128 rfl rfl) (kf_tile _ 0 3 inb_S1280x1024_S512x128_0_384 rfl rfl) (vf_tile _ 0 3 inb_S1280x1024_S512x128_0_384 rfl rfl))), ?_⟩
      refine List.forall_mem_cons.mpr ⟨tile_agrees _ q _ _ 0 2 (inb := inb_S1024x1024_S256x128_0_256) rfl rfl ((pay34_eq ..).trans (tile_pay (bias_0 _) (slice_tile q 0 2 slices_S1024x1024_o0_256_S256x128 rfl rfl) (kf_tile _ 0 2 inb_S1280x1024_S512x128_0_256 rfl rfl) (vf_tile _ 0 2 inb_S1280x1024_S512x128_0_256 rfl rfl))), ?_⟩
      refine List.forall_mem_cons.mpr ⟨tile_agrees _ q _ _ 0 1 (inb := inb_S1024x1024_S256x128_0_128) rfl rfl ((pay33_eq ..).trans (tile_pay (bias_0 _) (slice_tile q 0 1 slices_S1024x1024_o0_128_S256x128 rfl rfl) (kf_tile _ 0 1 inb_S1280x1024_S512x128_0_128 rfl rfl) (vf_tile _ 0 1 inb_S1280x1024_S512x128_0_128 rfl rfl))), ?_⟩
      refine List.forall_mem_cons.mpr ⟨tile_agrees _ q _ _ 0 0 (inb := inb_S1024x1024_S256x128_0_0) rfl rfl ((pay31_eq ..).trans (tile_pay (bias_0 _) (slice_tile q 0 0 slices_S1024x1024_o0_0_S256x128 rfl rfl) (kf_tile _ 0 0 inb_S1280x1024_S512x128_0_0 rfl rfl) (vf_tile _ 0 0 inb_S1280x1024_S512x128_0_0 rfl rfl))), ?_⟩
      refine List.forall_mem_cons.mpr ⟨tile_agrees _ q _ _ 2 7 (inb := inb_S1024x1024_S256x128_512_896) rfl rfl ((pay28_eq ..).trans (tile_pay (bias_2 _) (slice_tile q 2 7 slices_S1024x1024_o512_896_S256x128 rfl rfl) (kf_tile _ 2 7 inb_S1280x1024_S512x128_512_896 rfl rfl) (vf_tile _ 2 7 inb_S1280x1024_S512x128_512_896 rfl rfl))), ?_⟩
      refine List.forall_mem_cons.mpr ⟨tile_agrees _ q _ _ 2 6 (inb := inb_S1024x1024_S256x128_512_768) rfl rfl ((pay27_eq ..).trans (tile_pay (bias_2 _) (slice_tile q 2 6 slices_S1024x1024_o512_768_S256x128 rfl rfl) (kf_tile _ 2 6 inb_S1280x1024_S512x128_512_768 rfl rfl) (vf_tile _ 2 6 inb_S1280x1024_S512x128_512_768 rfl rfl))), ?_⟩
      refine List.forall_mem_cons.mpr ⟨tile_agrees _ q _ _ 2 5 (inb := inb_S1024x1024_S256x128_512_640) rfl rfl ((pay25_eq ..).trans (tile_pay (bias_2 _) (slice_tile q 2 5 slices_S1024x1024_o512_640_S256x128 rfl rfl) (kf_tile _ 2 5 inb_S1280x1024_S512x128_512_640 rfl rfl) (vf_tile _ 2 5 inb_S1280x1024_S512x128_512_640 rfl rfl))), ?_⟩
      refine List.forall_mem_cons.mpr ⟨tile_agrees _ q _ _ 2 4 (inb := inb_S1024x1024_S256x128_512_512) rfl rfl ((pay24_eq ..).trans (tile_pay (bias_2 _) (slice_tile q 2 4 slices_S1024x1024_o512_512_S256x128 rfl rfl) (kf_tile _ 2 4 inb_S1280x1024_S512x128_512_512 rfl rfl) (vf_tile _ 2 4 inb_S1280x1024_S512x128_512_512 rfl rfl))), ?_⟩
      refine List.forall_mem_cons.mpr ⟨tile_agrees _ q _ _ 2 3 (inb := inb_S1024x1024_S256x128_512_384) rfl rfl ((pay22_eq ..).trans (tile_pay (bias_2 _) (slice_tile q 2 3 slices_S1024x1024_o512_384_S256x128 rfl rfl) (kf_tile _ 2 3 inb_S1280x1024_S512x128_512_384 rfl rfl) (vf_tile _ 2 3 inb_S1280x1024_S512x128_512_384 rfl rfl))), ?_⟩
      refine List.forall_mem_cons.mpr ⟨tile_agrees _ q _ _ 2 2 (inb := inb_S1024x1024_S256x128_512_256) rfl rfl ((pay21_eq ..).trans (tile_pay (bias_2 _) (slice_tile q 2 2 slices_S1024x1024_o512_256_S256x128 rfl rfl) (kf_tile _ 2 2 inb_S1280x1024_S512x128_512_256 rfl rfl) (vf_tile _ 2 2 inb_S1280x1024_S512x128_512_256 rfl rfl))), ?_⟩
      refine List.forall_mem_cons.mpr ⟨tile_agrees _ q _ _ 2 1 (inb := inb_S1024x1024_S256x128_512_128) rfl rfl ((pay19_eq ..).trans (tile_pay (bias_2 _) (slice_tile q 2 1 slices_S1024x1024_o512_128_S256x128 rfl rfl) (kf_tile _ 2 1 inb_S1280x1024_S512x128_512_128 rfl rfl) (vf_tile _ 2 1 inb_S1280x1024_S512x128_512_128 rfl rfl))), ?_⟩
      refine List.forall_mem_cons.mpr ⟨tile_agrees _ q _ _ 2 0 (inb := inb_S1024x1024_S256x128_512_0) rfl rfl ((pay18_eq ..).trans (tile_pay (bias_2 _) (slice_tile q 2 0 slices_S1024x1024_o512_0_S256x128 rfl rfl) (kf_tile _ 2 0 inb_S1280x1024_S512x128_512_0 rfl rfl) (vf_tile _ 2 0 inb_S1280x1024_S512x128_512_0 rfl rfl))), ?_⟩
      refine List.forall_mem_cons.mpr ⟨tile_agrees _ q _ _ 1 7 (inb := inb_S1024x1024_S256x128_256_896) rfl rfl ((pay16_eq ..).trans (tile_pay (bias_1 _) (slice_tile q 1 7 slices_S1024x1024_o256_896_S256x128 rfl rfl) (kf_tile _ 1 7 inb_S1280x1024_S512x128_256_896 rfl rfl) (vf_tile _ 1 7 inb_S1280x1024_S512x128_256_896 rfl rfl))), ?_⟩
      refine List.forall_mem_cons.mpr ⟨tile_agrees _ q _ _ 1 6 (inb := inb_S1024x1024_S256x128_256_768) rfl rfl ((pay15_eq ..).trans (tile_pay (bias_1 _) (slice_tile q 1 6 slices_S1024x1024_o256_768_S256x128 rfl rfl) (kf_tile _ 1 6 inb_S1280x1024_S512x128_256_768 rfl rfl) (vf_tile _ 1 6 inb_S1280x1024_S512x128_256_768 rfl rfl))), ?_⟩
      refine List.forall_mem_cons.mpr ⟨tile_agrees _ q _ _ 1 5 (inb := inb_S1024x1024_S256x128_256_640) rfl rfl ((pay13_eq ..).trans (tile_pay (bias_1 _) (slice_tile q 1 5 slices_S1024x1024_o256_640_S256x128 rfl rfl) (kf_tile _ 1 5 inb_S1280x1024_S512x128_256_640 rfl rfl) (vf_tile _ 1 5 inb_S1280x1024_S512x128_256_640 rfl rfl))), ?_⟩
      refine List.forall_mem_cons.mpr ⟨tile_agrees _ q _ _ 1 4 (inb := inb_S1024x1024_S256x128_256_512) rfl rfl ((pay12_eq ..).trans (tile_pay (bias_1 _) (slice_tile q 1 4 slices_S1024x1024_o256_512_S256x128 rfl rfl) (kf_tile _ 1 4 inb_S1280x1024_S512x128_256_512 rfl rfl) (vf_tile _ 1 4 inb_S1280x1024_S512x128_256_512 rfl rfl))), ?_⟩
      refine List.forall_mem_cons.mpr ⟨tile_agrees _ q _ _ 1 3 (inb := inb_S1024x1024_S256x128_256_384) rfl rfl ((pay10_eq ..).trans (tile_pay (bias_1 _) (slice_tile q 1 3 slices_S1024x1024_o256_384_S256x128 rfl rfl) (kf_tile _ 1 3 inb_S1280x1024_S512x128_256_384 rfl rfl) (vf_tile _ 1 3 inb_S1280x1024_S512x128_256_384 rfl rfl))), ?_⟩
      refine List.forall_mem_cons.mpr ⟨tile_agrees _ q _ _ 1 2 (inb := inb_S1024x1024_S256x128_256_256) rfl rfl ((pay9_eq ..).trans (tile_pay (bias_1 _) (slice_tile q 1 2 slices_S1024x1024_o256_256_S256x128 rfl rfl) (kf_tile _ 1 2 inb_S1280x1024_S512x128_256_256 rfl rfl) (vf_tile _ 1 2 inb_S1280x1024_S512x128_256_256 rfl rfl))), ?_⟩
      refine List.forall_mem_cons.mpr ⟨tile_agrees _ q _ _ 1 1 (inb := inb_S1024x1024_S256x128_256_128) rfl rfl ((pay7_eq ..).trans (tile_pay (bias_1 _) (slice_tile q 1 1 slices_S1024x1024_o256_128_S256x128 rfl rfl) (kf_tile _ 1 1 inb_S1280x1024_S512x128_256_128 rfl rfl) (vf_tile _ 1 1 inb_S1280x1024_S512x128_256_128 rfl rfl))), ?_⟩
      refine List.forall_mem_cons.mpr ⟨tile_agrees _ q _ _ 1 0 (inb := inb_S1024x1024_S256x128_256_0) rfl rfl (tile_pay (bias_1 _) (slice_tile q 1 0 slices_S1024x1024_o256_0_S256x128 rfl rfl) (kf_tile _ 1 0 inb_S1280x1024_S512x128_256_0 rfl rfl) (vf_tile _ 1 0 inb_S1280x1024_S512x128_256_0 rfl rfl)), ?_⟩
      exact fun p hp => absurd hp List.not_mem_nil
    · intro y
      have y0 : (y 0).val < 1024 := (y 0).isLt
      have y1 : (y 1).val < 1024 := (y 1).isLt
      unfold run.sl.Hcx_32
      by_cases a0 : (y 0).val < 256
      · by_cases b0 : (y 1).val < 128
        · exact ⟨_, .tail _ (.tail _ (.tail _ (.tail _ (.tail _ (.tail _ (.tail _ (.tail _ (.tail _ (.tail _ (.tail _ (.tail _ (.tail _ (.tail _ (.tail _ (.head _))))))))))))))), mem_tile (inb := inb_S1024x1024_S256x128_0_0) y ⟨by omega, by omega⟩ ⟨by omega, by omega⟩⟩
        by_cases b1 : (y 1).val < 256
        · exact ⟨_, .tail _ (.tail _ (.tail _ (.tail _ (.tail _ (.tail _ (.tail _ (.tail _ (.tail _ (.tail _ (.tail _ (.tail _ (.tail _ (.tail _ (.head _)))))))))))))), mem_tile (inb := inb_S1024x1024_S256x128_0_128) y ⟨by omega, by omega⟩ ⟨by omega, by omega⟩⟩
        by_cases b2 : (y 1).val < 384
        · exact ⟨_, .tail _ (.tail _ (.tail _ (.tail _ (.tail _ (.tail _ (.tail _ (.tail _ (.tail _ (.tail _ (.tail _ (.tail _ (.tail _ (.head _))))))))))))), mem_tile (inb := inb_S1024x1024_S256x128_0_256) y ⟨by omega, by omega⟩ ⟨by omega, by omega⟩⟩
        by_cases b3 : (y 1).val < 512
        · exact ⟨_, .tail _ (.tail _ (.tail _ (.tail _ (.tail _ (.tail _ (.tail _ (.tail _ (.tail _ (.tail _ (.tail _ (.tail _ (.head _)))))))))))), mem_tile (inb := inb_S1024x1024_S256x128_0_384) y ⟨by omega, by omega⟩ ⟨by omega, by omega⟩⟩
        by_cases b4 : (y 1).val < 640
        · exact ⟨_, .tail _ (.tail _ (.tail _ (.tail _ (.tail _ (.tail _ (.tail _ (.tail _ (.tail _ (.tail _ (.tail _ (.head _))))))))))), mem_tile (inb := inb_S1024x1024_S256x128_0_512) y ⟨by omega, by omega⟩ ⟨by omega, by omega⟩⟩
        by_cases b5 : (y 1).val < 768
        · exact ⟨_, .tail _ (.tail _ (.tail _ (.tail _ (.tail _ (.tail _ (.tail _ (.tail _ (.tail _ (.tail _ (.head _)))))))))), mem_tile (inb := inb_S1024x1024_S256x128_0_640) y ⟨by omega, by omega⟩ ⟨by omega, by omega⟩⟩
        by_cases b6 : (y 1).val < 896
        · exact ⟨_, .tail _ (.tail _ (.tail _ (.tail _ (.tail _ (.tail _ (.tail _ (.tail _ (.tail _ (.head _))))))))), mem_tile (inb := inb_S1024x1024_S256x128_0_768) y ⟨by omega, by omega⟩ ⟨by omega, by omega⟩⟩
        exact ⟨_, .tail _ (.tail _ (.tail _ (.tail _ (.tail _ (.tail _ (.tail _ (.tail _ (.head _)))))))), mem_tile (inb := inb_S1024x1024_S256x128_0_896) y ⟨by omega, by omega⟩ ⟨by omega, by omega⟩⟩
      by_cases a1 : (y 0).val < 512
      · by_cases b0 : (y 1).val < 128
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), mem_tile (inb := inb_S1024x1024_S256x128_256_0) y ⟨by omega, by omega⟩ ⟨by omega, by omega⟩⟩
        by_cases b1 : (y 1).val < 256
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), mem_tile (inb := inb_S1024x1024_S256x128_256_128) y ⟨by omega, by omega⟩ ⟨by omega, by omega⟩⟩
        by_cases b2 : (y 1).val < 384
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), mem_tile (inb := inb_S1024x1024_S256x128_256_256) y ⟨by omega, by omega⟩ ⟨by omega, by omega⟩⟩
        by_cases b3 : (y 1).val < 512
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), mem_tile (inb := inb_S1024x1024_S256x128_256_384) y ⟨by omega, by omega⟩ ⟨by omega, by omega⟩⟩
        by_cases b4 : (y 1).val < 640
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem_tile (inb := inb_S1024x1024_S256x128_256_512) y ⟨by omega, by omega⟩ ⟨by omega, by omega⟩⟩
        by_cases b5 : (y 1).val < 768
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem_tile (inb := inb_S1024x1024_S256x128_256_640) y ⟨by omega, by omega⟩ ⟨by omega, by omega⟩⟩
        by_cases b6 : (y 1).val < 896
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem_tile (inb := inb_S1024x1024_S256x128_256_768) y ⟨by omega, by omega⟩ ⟨by omega, by omega⟩⟩
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem_tile (inb := inb_S1024x1024_S256x128_256_896) y ⟨by omega, by omega⟩ ⟨by omega, by omega⟩⟩
      by_cases a2 : (y 0).val < 768
      · by_cases b0 : (y 1).val < 128
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_tile (inb := inb_S1024x1024_S256x128_512_0) y ⟨by omega, by omega⟩ ⟨by omega, by omega⟩⟩
        by_cases b1 : (y 1).val < 256
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_tile (inb := inb_S1024x1024_S256x128_512_128) y ⟨by omega, by omega⟩ ⟨by omega, by omega⟩⟩
        by_cases b2 : (y 1).val < 384
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_tile (inb := inb_S1024x1024_S256x128_512_256) y ⟨by omega, by omega⟩ ⟨by omega, by omega⟩⟩
        by_cases b3 : (y 1).val < 512
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_tile (inb := inb_S1024x1024_S256x128_512_384) y ⟨by omega, by omega⟩ ⟨by omega, by omega⟩⟩
        by_cases b4 : (y 1).val < 640
        · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_tile (inb := inb_S1024x1024_S256x128_512_512) y ⟨by omega, by omega⟩ ⟨by omega, by omega⟩⟩
        by_cases b5 : (y 1).val < 768
        · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_tile (inb := inb_S1024x1024_S256x128_512_640) y ⟨by omega, by omega⟩ ⟨by omega, by omega⟩⟩
        by_cases b6 : (y 1).val < 896
        · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_tile (inb := inb_S1024x1024_S256x128_512_768) y ⟨by omega, by omega⟩ ⟨by omega, by omega⟩⟩
        exact ⟨_, .tail _ (.tail _ (.tail _ (.tail _ (.tail _ (.tail _ (.tail _ (.tail _ (.tail _ (.tail _ (.tail _ (.tail _ (.tail _ (.tail _ (.tail _ (.tail _ (.head _)))))))))))))))), mem_tile (inb := inb_S1024x1024_S256x128_512_896) y ⟨by omega, by omega⟩ ⟨by omega, by omega⟩⟩
      by_cases b0 : (y 1).val < 128
      · exact ⟨_, .tail _ (.tail _ (.tail _ (.tail _ (.tail _ (.tail _ (.tail _ (.head _))))))), mem_tile (inb := inb_S1024x1024_S256x128_768_0) y ⟨by omega, by omega⟩ ⟨by omega, by omega⟩⟩
      by_cases b1 : (y 1).val < 256
      · exact ⟨_, .tail _ (.tail _ (.tail _ (.tail _ (.tail _ (.tail _ (.head _)))))), mem_tile (inb := inb_S1024x1024_S256x128_768_128) y ⟨by omega, by omega⟩ ⟨by omega, by omega⟩⟩
      by_cases b2 : (y 1).val < 384
      · exact ⟨_, .tail _ (.tail _ (.tail _ (.tail _ (.tail _ (.head _))))), mem_tile (inb := inb_S1024x1024_S256x128_768_256) y ⟨by omega, by omega⟩ ⟨by omega, by omega⟩⟩
      by_cases b3 : (y 1).val < 512
      · exact ⟨_, .tail _ (.tail _ (.tail _ (.tail _ (.head _)))), mem_tile (inb := inb_S1024x1024_S256x128_768_384) y ⟨by omega, by omega⟩ ⟨by omega, by omega⟩⟩
      by_cases b4 : (y 1).val < 640
      · exact ⟨_, .tail _ (.tail _ (.tail _ (.head _))), mem_tile (inb := inb_S1024x1024_S256x128_768_512) y ⟨by omega, by omega⟩ ⟨by omega, by omega⟩⟩
      by_cases b5 : (y 1).val < 768
      · exact ⟨_, .tail _ (.tail _ (.head _)), mem_tile (inb := inb_S1024x1024_S256x128_768_640) y ⟨by omega, by omega⟩ ⟨by omega, by omega⟩⟩
      by_cases b6 : (y 1).val < 896
      · exact ⟨_, .tail _ (.head _), mem_tile (inb := inb_S1024x1024_S256x128_768_768) y ⟨by omega, by omega⟩ ⟨by omega, by omega⟩⟩
      exact ⟨_, .head _, mem_tile (inb := inb_S1024x1024_S256x128_768_896) y ⟨by omega, by omega⟩ ⟨by omega, by omega⟩⟩
  rw [hv, woM_read, wp_ret]
  imod (close_cell kv vv K c 6 (by decide) (by decide)) $$ [Ha6] with Hs6
  · isplitr; · iexact HR
    iexact Ha6
  imod (close_cell kv vv K c 7 (by decide) (by decide)) $$ [Ha7] with Hs7
  · isplitr; · iexact HR
    iexact Ha7
  imod (close_cell kv vv K c 8 (by decide) (by decide)) $$ [Ha8] with Hs8
  · isplitr; · iexact HR
    iexact Ha8
  imod (close_cell kv vv K c 9 (by decide) (by decide)) $$ [Ha9] with Hs9
  · isplitr; · iexact HR
    iexact Ha9
  imod (close_cell kv vv K c 10 (by decide) (by decide)) $$ [Ha10] with Hs10
  · isplitr; · iexact HR
    iexact Ha10
  imod (close_cell kv vv K c 11 (by decide) (by decide)) $$ [Ha11] with Hs11
  · isplitr; · iexact HR
    iexact Ha11
  imod (close_cell kv vv K c 12 (by decide) (by decide)) $$ [Ha12] with Hs12
  · isplitr; · iexact HR
    iexact Ha12
  imod (close_cell kv vv K c 13 (by decide) (by decide)) $$ [Ha13] with Hs13
  · isplitr; · iexact HR
    iexact Ha13
  imod (close_cell kv vv K c 14 (by decide) (by decide)) $$ [Ha14] with Hs14
  · isplitr; · iexact HR
    iexact Ha14
  imod (close_cell kv vv K c 15 (by decide) (by decide)) $$ [Ha15] with Hs15
  · isplitr; · iexact HR
    iexact Ha15
  imod (close_bar kv vv K c) $$ [Hat] with Hsb
  · isplitr; · iexact HR
    iexact Hat
  imodintro
  iapply HQ
  unfold done
  rw [sv10_eq c]
  isplitl [HO]; · iexact HO
  isplitl [Hsb]; · iexact Hsb
  isplitl [Hs6 Hs7 Hs8 Hs9 Hs10 Hs11 Hs12 Hs13 Hs14 Hs15]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  isplitl [HkM HkTop HkBot HkRest]
  · iapply (split_k c _).2
    isplitl [HkM]; · iexact HkM
    isplitl [HkTop]; · iexact HkTop
    isplitl [HkBot] <;> iassumption
  isplitl [HvM HvTop HvBot HvRest]
  · iapply (split_v c _).2
    isplitl [HvM]; · iexact HvM
    isplitl [HvTop]; · iexact HvTop
    isplitl [HvBot] <;> iassumption
  isplitl [Hq]; · iexact Hq
  isplitl [Hwo]; · iexact Hwo
  isplitl [Hout]; · iapply (Entails.of_eq (congrArg (fun f => (outM.view.loc (c : Thread nD τ) ↦{fullShare} f : sProp 𝕄)) (out_written fo _))) $$ Hout
  isplitl [Hkf]; · iexists _; iexact Hkf
  isplitl [Hvf]; · iexists _; iexact Hvf
  iexists _; iexact Hcx

end Cert.KernelIdeal.Halo
-- ==== Proof.Regions.lean ====
/-
  The two kernel calls of the program as regions of its run: the projection of the queries, which owes the neighbours what the
  device owed at launch throughout, and the attention, which pays it. What every buffer holds between them.
-/
module

public import proofs.«01_k».proof.Proof.Run
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.RegionArrays

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F] [Named F]

local notation "𝕄" => MT nD τ sig Unit (Elt F) ℕ UU ℕ

variable (m : (ℓ : Loc nD τ sig) → Buf (Elt F) ℓ)

/-! ## What the buffers hold -/

/-- A device's keys, values, projected queries and result. -/
def keys (c : Dev nD) : S1024x1024.Idx → Elt F .bf16 := V1 m c main_v2
def vals (c : Dev nD) : S1024x1024.Idx → Elt F .bf16 := V1 m c main_v3
def qry (c : Dev nD) : S1024x1024.Idx → Elt F .bf16 := k0_pay1 (V1 m c main_v1) (V1 m c main_arg1)
def res (c : Dev nD) : S1x1024x1024.Idx → Elt F .bf16 :=
  result (pos c) (qry m c) (full (keys m) c) (full (vals m) c) (V1 m c main_arg4)

/-- The buffers after the projection, and after the attention. -/
def W2 (c : Dev nD) : Valuation τ sig (Elt F) := Function.update (V1 m c) main_v4 (qry m c)
def W3 (c : Dev nD) : Valuation τ sig (Elt F) := Function.update (W2 m c) main_v5 (res m c)

theorem W2_v4 (c : Dev nD) : W2 m c main_v4 = qry m c := by unfold W2; exact Function.update_self ..
theorem W2_of (c : Dev nD) (r : Ref sig .tc) (h : r ≠ main_v4) : W2 m c r = V1 m c r := by
  unfold W2; exact Function.update_of_ne (StableHlo.devRef_ne_of_ne h) _ _
theorem W3_v5 (c : Dev nD) : W3 m c main_v5 = res m c := by unfold W3; exact Function.update_self ..
theorem W3_of (c : Dev nD) (r : Ref sig .tc) (h : r ≠ main_v5) : W3 m c r = W2 m c r := by
  unfold W3; exact Function.update_of_ne (StableHlo.devRef_ne_of_ne h) _ _

/-! ## The proof data -/

/-- The buffers the attention addresses itself, and all it does not stage. -/
abbrev Hs : Finset (DevRef τ sig) := {Proc.devRef .tc main_v2, Proc.devRef .tc main_v3}
abbrev Sr : Finset (DevRef τ sig) := Pipeline.ucRefs τ sig \ Pipeline.arrRefs spec1

theorem Hs_sub : Hs ⊆ Sr := by decide

/-- What the attention takes from the launch, before its cells open; after; what it leaves. -/
def Tk (c : Dev nD) : sProp 𝕄 := iprop((∃ K, ghost (keys m) (vals m) K c) ∗ credits c)
def Xk (c : Dev nD) : sProp 𝕄 := iprop((∃ K, opened (keys m) (vals m) K c) ∗ levAts L lv ∗ credits c)
def Yk (c : Dev nD) : sProp 𝕄 := semVal (barCell c) 0

def dat0 (c : Dev nD) : Dat τ (Elt F) Unit ℕ UU ℕ cfg0 c where
  A w := V1 m c (Proc.devRef .tc (Pipeline.arrRef spec0 w))
  after w _ := match w with
    | ⟨0, _⟩ => (V1 m c main_v1 : S1024x1024.Idx → Elt F .bf16)
    | ⟨1, _⟩ => (V1 m c main_arg1 : S1024x1024.Idx → Elt F .bf16)
    | ⟨2, _⟩ => qry m c
  Φ _ := iprop(Pipeline.scopedRest spec0 c ∗ ∃ r, prngReg c r)
  q _ := fullShare
  owed _ := O₀ c

def dat1 (c : Dev nD) : Dat τ (Elt F) Unit ℕ UU ℕ cfg1 c where
  A w := W2 m c (Proc.devRef .tc (Pipeline.arrRef spec1 w))
  after w _ := match w with
    | ⟨0, _⟩ => qry m c
    | ⟨1, _⟩ => (V1 m c main_arg4 : S1024x1024.Idx → Elt F .bf16)
    | ⟨2, _⟩ => res m c
  Φ t := if t.val = 0
    then iprop(Pipeline.scopedRest spec1 c ∗ (∃ r, prngReg c r) ∗ StableHlo.held (c.tc : Thread nD τ) Hs (W2 m c) ∗ Xk m c)
    else iprop(Pipeline.scopedRest spec1 c ∗ (∃ r, prngReg c r) ∗ StableHlo.held (c.tc : Thread nD τ) Hs (W3 m c)
      ∗ Pipeline.ownSems0 osem c ∗ Yk c)
  q _ := fullShare
  owed t := if t.val = 0 then O₀ c else 0

def pdats : (p : Fin 2) → (c : Dev nD) → Dat τ (Elt F) Unit ℕ UU ℕ (Pipeline.pin (pcfgs (F := F)) adm p) c
  | 0 => dat0 m
  | 1 => dat1 m

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (debt c O : sProp 𝕄) ⊢ (dat.owesAt () t : sProp 𝕄) := by
  unfold debt Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ debt c O := by
  unfold debt Dat.owesAt Pipeline.owesWithin; rw [h0]
  iintro ⟨%W, -, HO⟩; iexists W; iexact HO

theorem owed1_first (c : Dev nD) : (dat1 m c).owed t1_0.castSucc = O₀ c := by
  show (if (t1_0.castSucc : Fin (cfg1.N + 1)).val = 0 then O₀ c else 0) = O₀ c; exact if_pos rfl
theorem owed1_last (c : Dev nD) : (dat1 m c).owed t1_0.succ = 0 := by
  show (if (t1_0.succ : Fin (cfg1.N + 1)).val = 0 then O₀ c else 0) = 0; exact if_neg (Nat.succ_ne_zero _)

/-- A whole staging buffer owned at contents X is its points-to at X. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## A window over a whole array: its one block is the array -/

theorem read0_0 (f : S1024x1024.Idx → Elt F .bf16) : ((cfg0.win 0).blk t0_0).view.read (Elt F) f = f := by
  funext y
  refine congrArg f (funext fun a => Fin.ext ?_)
  show 0 * S1024x1024.size a + 1 * (y a).val = (y a).val
  omega
theorem read0_1 (f : S1024x1024.Idx → Elt F .bf16) : ((cfg0.win 1).blk t0_0).view.read (Elt F) f = f := by
  funext y
  refine congrArg f (funext fun a => Fin.ext ?_)
  show 0 * S1024x1024.size a + 1 * (y a).val = (y a).val
  omega
theorem read0_2 (f : S1024x1024.Idx → Elt F .bf16) : ((cfg0.win 2).blk t0_0).view.read (Elt F) f = f := by
  funext y
  refine congrArg f (funext fun a => Fin.ext ?_)
  show 0 * S1024x1024.size a + 1 * (y a).val = (y a).val
  omega
theorem read1_0 (f : S1024x1024.Idx → Elt F .bf16) : ((cfg1.win 0).blk t1_0).view.read (Elt F) f = f := by
  funext y
  refine congrArg f (funext fun a => Fin.ext ?_)
  show 0 * S1024x1024.size a + 1 * (y a).val = (y a).val
  omega
theorem read1_1 (f : S1024x1024.Idx → Elt F .bf16) : ((cfg1.win 1).blk t1_0).view.read (Elt F) f = f := by
  funext y
  refine congrArg f (funext fun a => Fin.ext ?_)
  show 0 * S1024x1024.size a + 1 * (y a).val = (y a).val
  omega
theorem read1_2 (f : S1x1024x1024.Idx → Elt F .bf16) : ((cfg1.win 2).blk t1_0).view.read (Elt F) f = f := by
  funext y
  refine congrArg f (funext fun a => Fin.ext ?_)
  show 0 * S1x1024x1024.size a + 1 * (y a).val = (y a).val
  omega

theorem before0_0 (c : Dev nD) (d) : (dat0 m c).before 0 t0_0 d = (V1 m c main_v1 : S1024x1024.Idx → Elt F .bf16) := by
  unfold Dat.before; rw [if_pos (fetch0_0 t0_0)]
  exact read0_0 (V1 m c main_v1)
theorem before0_1 (c : Dev nD) (d) : (dat0 m c).before 1 t0_0 d = (V1 m c main_arg1 : S1024x1024.Idx → Elt F .bf16) := by
  unfold Dat.before; rw [if_pos (fetch0_1 t0_0)]
  exact read0_1 (V1 m c main_arg1)
theorem before1_0 (c : Dev nD) (d) : (dat1 m c).before 0 t1_0 d = (qry m c : S1024x1024.Idx → Elt F .bf16) := by
  unfold Dat.before; rw [if_pos (fetch1_0 t1_0)]
  exact (congrArg _ (W2_v4 m c)).trans (read1_0 (qry m c))
theorem before1_1 (c : Dev nD) (d) : (dat1 m c).before 1 t1_0 d = (V1 m c main_arg4 : S1024x1024.Idx → Elt F .bf16) := by
  unfold Dat.before; rw [if_pos (fetch1_1 t1_0)]
  exact (congrArg _ (W2_of m c main_arg4 (by decide))).trans (read1_1 (V1 m c main_arg4))

/-- A one-point output window over a whole array leaves what the body left. -/
theorem last0 (c : Dev nD) : (dat0 m c).arrAt 2 cfg0.N = qry m c :=
  (dat0 m c).arrAt_eq_of_cover 2 (qry m c)
    (fun t _ => by obtain rfl := fin_N0 t; exact (read0_2 (qry m c)).symm)
    (fun i => ⟨t0_0, flush0_2 _, by
      have := ((cfg0.win 2).blk t0_0).view.emb_mem_set i
      have e : ((cfg0.win 2).blk t0_0).view.emb i = i := by
        refine funext fun a => Fin.ext ?_
        show 0 * S1024x1024.size a + 1 * (i a).val = (i a).val
        omega
      rwa [e] at this⟩)
theorem last1 (c : Dev nD) : (dat1 m c).arrAt 2 cfg1.N = res m c :=
  (dat1 m c).arrAt_eq_of_cover 2 (res m c)
    (fun t _ => by obtain rfl := fin_N1 t; exact (read1_2 (res m c)).symm)
    (fun i => ⟨t1_0, flush1_2 _, by
      have := ((cfg1.win 2).blk t1_0).view.emb_mem_set i
      have e : ((cfg1.win 2).blk t1_0).view.emb i = i := by
        refine funext fun a => Fin.ext ?_
        show 0 * S1x1024x1024.size a + 1 * (i a).val = (i a).val
        omega
      rwa [e] at this⟩)

/-! ## The bodies -/

theorem hz2 : (![0, 0] : Fin 2 → ℕ) = fun _ => 0 := funext fun a => by fin_cases a <;> rfl

abbrev xM : Memref sig .tc .vmem S1024x1024 .bf16 := Memref.whole cc0_stg0_0
abbrev wqM : Memref sig .tc .vmem S1024x1024 .bf16 := Memref.whole cc0_stg1_0
abbrev qoM : Memref sig .tc .vmem S1024x1024 .bf16 := Memref.whole cc0_stg2_0

/-- The projection, executed. -/
theorem project (c : Dev nD) (x w : S1024x1024.Idx → Elt F .bf16) (Q : PUnit → sProp 𝕄) :
    iprop((xM.view.loc (c : Thread nD τ) ↦{fullShare} x) ∗ (wqM.view.loc (c : Thread nD τ) ↦{fullShare} w)
        ∗ (∃ f, qoM.view.loc (c : Thread nD τ) ↦{fullShare} f)
        ∗ (((xM.view.loc (c : Thread nD τ) ↦{fullShare} x) ∗ (wqM.view.loc (c : Thread nD τ) ↦{fullShare} w)
            ∗ (qoM.view.loc (c : Thread nD τ) ↦{fullShare} (k0_pay1 x w : S1024x1024.Idx → Elt F .bf16))) -∗ Q ⟨⟩))
      ⊢ wp frame (wpE (defs₀ (F := F)) 𝒱₀ c none) Set.univ
          (cc0_qproj_body xM (Memref.isWhole_whole _) wqM (Memref.isWhole_whole _) qoM (Memref.isWhole_whole _)) Q := by
  simp only [cc0_qproj_body_eq_skeleton]; unfold cc0_qproj_body_skel
  simp only [Prog.lift, Prog.bind_op, Prog.bind_ret, Prog.pure_eq_ret]
  iintro ⟨Hx, Hw, ⟨%f, Ho⟩, HQ⟩
  iapply (wp_load (Γ := PendingWaitsCtx.empty) 𝒱₀ (c : Thread nD τ) none Set.univ (m := xM) (Finset.subset_univ _)) $$ Hx; iintro Hx
  rw [show xM.view.readAt (Elt F) _ x = x from Memref.readAt_unit_zero (Elt F) cc0_stg0_0 hz2 _ x]
  iapply (wp_load (Γ := PendingWaitsCtx.empty) 𝒱₀ (c : Thread nD τ) none Set.univ (m := wqM) (Finset.subset_univ _)) $$ Hw; iintro Hw
  rw [show wqM.view.readAt (Elt F) _ w = w from Memref.readAt_unit_zero (Elt F) cc0_stg1_0 hz2 _ w]
  iapply (wp_load (Γ := PendingWaitsCtx.empty) 𝒱₀ (c : Thread nD τ) none Set.univ (m := qoM) (Finset.subset_univ _)) $$ Ho; iintro Ho
  iapply (wp_store (Γ := PendingWaitsCtx.empty) 𝒱₀ (c : Thread nD τ) none Set.univ (m := qoM)
    (r := Rect.unit (s := S1024x1024) ![0, 0] S1024x1024.size inb_S1024x1024_S1024x1024_0_0) (Mk := Finset.univ) (Finset.subset_univ _)) $$ Ho; iintro Ho
  rw [wp_ret]
  imodintro
  iapply HQ
  isplitl [Hx]; · iexact Hx
  isplitl [Hw]; · iexact Hw
  iapply (Entails.of_eq (congrArg (fun g => (qoM.view.loc (c : Thread nD τ) ↦{fullShare} g : sProp 𝕄))
    (Memref.write_access_unit_zero_univ (Elt F) cc0_stg2_0 hz2 _ f (k0_pay1 x w)))) $$ Ho

end Cert.KernelIdeal.Halo
-- ==== Proof.Calls.lean ====
/-
  The two regions of the run: each kernel call's body against its proof data, the attention's ten semaphores opened on entry,
  and the levels that let every staging wait go through while a device owes its neighbours.
-/
module

public import proofs.«01_k».proof.Proof.Regions

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F] [Named F]

local notation "𝕄" => MT nD τ sig Unit (Elt F) ℕ UU ℕ

variable (m : (ℓ : Loc nD τ sig) → Buf (Elt F) ℓ)

theorem held_Hs (c : Dev nD) (W : Valuation τ sig (Elt F)) :
    (StableHlo.held (c.tc : Thread nD τ) Hs W : sProp 𝕄)
      = iprop((kM.view.loc (c : Thread nD τ) ↦{fullShare} W main_v2) ∗ (vM.view.loc (c : Thread nD τ) ↦{fullShare} W main_v3)) := by
  unfold StableHlo.held
  rw [show Hs = insert (Proc.devRef .tc main_v2) {Proc.devRef .tc main_v3} from rfl, bigSep_insert (by decide), bigSep_singleton]
  rfl

theorem body0 (c : Dev nD) : BodyObligation (dat0 m c) defs₀ 𝒱₀ () Set.univ := fun t => by
  obtain rfl := fin_N0 t
  rw [bigSep_W0, bigSep_W0]
  rw [show (dat0 m c).owesAt () t0_0.succ = (dat0 m c).owesAt () t0_0.castSucc from rfl,
    show (dat0 m c).Φ t0_0.succ = (dat0 m c).Φ t0_0.castSucc from rfl]
  simp only [before0_0, before0_1]
  iintro ⟨HΦ, HO, ⟨%d0, H0⟩, ⟨%d1, H1⟩, ⟨%d2, H2⟩⟩
  ihave H0 := (Entails.of_eq (owns_stage c cc0_stg0_0 (V1 m c main_v1))) $$ H0
  ihave H1 := (Entails.of_eq (owns_stage c cc0_stg1_0 (V1 m c main_arg1))) $$ H1
  ihave H2 := (Entails.of_eq (owns_stage c cc0_stg2_0 ((dat0 m c).before 2 t0_0 d2))) $$ H2
  icases H0 with ⟨%g0, %e0, H0⟩
  icases H1 with ⟨%g1, %e1, H1⟩
  icases H2 with ⟨%g2, %e2, H2⟩
  subst e0; subst e1
  iapply (project c (V1 m c main_v1) (V1 m c main_arg1) _)
  isplitl [H0]; · iexact H0
  isplitl [H1]; · iexact H1
  isplitl [H2]; · iexists g2; iexact H2
  iintro ⟨H0, H1, H2⟩
  isplitl [HΦ]; · iexact HΦ
  isplitl [HO]; · iexact HO
  isplitl [H0]
  · iapply (Entails.of_eq (owns_stage c cc0_stg0_0 (V1 m c main_v1)).symm)
    iexists _; isplitr; · ipureintro; rfl
    iexact H0
  isplitl [H1]
  · iapply (Entails.of_eq (owns_stage c cc0_stg1_0 (V1 m c main_arg1)).symm)
    iexists _; isplitr; · ipureintro; rfl
    iexact H1
  · iapply (Entails.of_eq (owns_stage c cc0_stg2_0 (qry m c)).symm)
    iexists _; isplitr; · ipureintro; rfl
    iexact H2

/-- What the attention's body starts from beside its windows, and what it leaves. -/
def before (c : Dev nD) : sProp 𝕄 :=
  iprop(Pipeline.scopedRest spec1 c ∗ (∃ r, prngReg c r) ∗ StableHlo.held (c.tc : Thread nD τ) Hs (W2 m c) ∗ Xk m c)
def after (c : Dev nD) : sProp 𝕄 :=
  iprop(Pipeline.scopedRest spec1 c ∗ (∃ r, prngReg c r) ∗ StableHlo.held (c.tc : Thread nD τ) Hs (W3 m c) ∗ Pipeline.ownSems0 osem c ∗ Yk c)

theorem Φ1_first (c : Dev nD) : (dat1 m c).Φ t1_0.castSucc = before m c := by
  show (if (t1_0.castSucc : Fin (cfg1.N + 1)).val = 0 then before m c else after m c) = _; exact if_pos rfl
theorem Φ1_last (c : Dev nD) : (dat1 m c).Φ t1_0.succ = after m c := by
  show (if (t1_0.succ : Fin (cfg1.N + 1)).val = 0 then before m c else after m c) = _; exact if_neg (Nat.succ_ne_zero _)

theorem body1 (c : Dev nD) : BodyObligation (dat1 m c) defs₀ 𝒱₀ () Set.univ := fun t => by
  obtain rfl := fin_N1 t
  rw [bigSep_W1, bigSep_W1, Φ1_first, Φ1_last]
  unfold before after
  rw [held_Hs, held_Hs, scopedRest1_eq]
  rw [W2_of m c main_v2 (by decide), W2_of m c main_v3 (by decide), W3_of m c main_v2 (by decide), W3_of m c main_v3 (by decide),
    W2_of m c main_v2 (by decide), W2_of m c main_v3 (by decide)]
  simp only [before1_0, before1_1]
  unfold Xk Yk Pipeline.ownSems0
  iintro ⟨⟨⟨Hs0, Hs1, Hs2, Hkf, Hvf, Hcx⟩, Hreg, ⟨Hk, Hv⟩, ⟨%K, Hg⟩, Hlev, Hcr⟩, HO, ⟨%d0, H0⟩, ⟨%d1, H1⟩, ⟨%d2, H2⟩⟩
  ihave H0 := (Entails.of_eq (owns_stage c cc1_stg0_0 (qry m c))) $$ H0
  ihave H1 := (Entails.of_eq (owns_stage c cc1_stg1_0 (V1 m c main_arg4))) $$ H1
  ihave H2 := (Entails.of_eq (owns_stage c cc1_stg2_0 ((dat1 m c).before 2 t1_0 d2))) $$ H2
  icases H0 with ⟨%g0, %e0, H0⟩
  icases H1 with ⟨%g1, %e1, H1⟩
  icases H2 with ⟨%g2, %e2, H2⟩
  subst e0; subst e1
  ihave HO := (owesAt_elim (dat1 m c) _ (O₀ c) (owed1_first m c)) $$ HO
  iapply (run (keys m) (vals m) K c (qry m c) (V1 m c main_arg4) _)
  isplitl [Hg]; · iexact Hg
  isplitl [Hlev]; · iexact Hlev
  isplitl [Hcr]; · iexact Hcr
  isplitl [HO]; · iexact HO
  isplitl [Hk]; · iexact Hk
  isplitl [Hv]; · iexact Hv
  isplitl [H0]; · iexact H0
  isplitl [H1]; · iexact H1
  isplitl [H2]; · iexists g2; iexact H2
  isplitl [Hkf]; · iexact Hkf
  isplitl [Hvf]; · iexact Hvf
  isplitl [Hcx]; · iexact Hcx
  unfold done
  iintro ⟨HO, Hb, Hsv, Hk, Hv, H0, H1, H2, Hkf, Hvf, Hcx⟩
  isplitl [Hs0 Hs1 Hs2 Hkf Hvf Hcx Hreg Hk Hv Hsv Hb]
  · isplitl [Hs0 Hs1 Hs2 Hkf Hvf Hcx]
    · isplitl [Hs0]; · iexact Hs0
      isplitl [Hs1]; · iexact Hs1
      isplitl [Hs2]; · iexact Hs2
      isplitl [Hkf]; · iexact Hkf
      isplitl [Hvf]; · iexact Hvf
      iexact Hcx
    isplitl [Hreg]; · iexact Hreg
    isplitl [Hk Hv]
    · isplitl [Hk]; · iexact Hk
      iexact Hv
    isplitl [Hsv]; · iexact Hsv
    iexact Hb
  isplitl [HO]; · iapply (owesAt_intro (dat1 m c) t1_0.succ 0 (owed1_last m c) rfl); iexact HO
  isplitl [H0]
  · iapply (Entails.of_eq (owns_stage c cc1_stg0_0 (qry m c)).symm)
    iexists _; isplitr; · ipureintro; rfl
    iexact H0
  isplitl [H1]
  · iapply (Entails.of_eq (owns_stage c cc1_stg1_0 (V1 m c main_arg4)).symm)
    iexists _; isplitr; · ipureintro; rfl
    iexact H1
  · iapply (Entails.of_eq (owns_stage c cc1_stg2_0 (res m c)).symm)
    iexists _; isplitr; · ipureintro; rfl
    iexact H2

/-! ## Opening the ten cells -/

theorem open_one (K : GSem nD τ sig → ℕ) (c : Dev nD) (k : Fin 10) :
    iprop(records (keys m) (vals m) K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  unfold records
  iintro ⟨⟨#HI, -⟩, Ho, Hv⟩
  iapply (Rounds.cell_open ER (haloRd (keys m) (vals m)) (g := ((c : Thread nD τ), osem k)) (Set.mem_univ (K ((c : Thread nD τ), osem k))))
  isplitr
  · iapply (inv_at (keys m) (vals m) K (g := ((c : Thread nD τ), osem k))
      (Finset.mem_union_right _ (Finset.mem_map_of_mem scEmb (Finset.mem_univ (c, k))))); iexact HI
  isplitl [Ho] <;> iassumption

theorem hopen1 (c : Dev nD) : iprop(Tk m c ∗ Pipeline.ownSems0 osem c ∗ levAts L lv) ⊢ (|={Set.univ}=> Xk m c : sProp 𝕄) := by
  unfold Tk Xk ghost opened Pipeline.ownSems0
  iintro ⟨⟨⟨%K, #HR, Hat, Hop, Hpay⟩, Hcr⟩, Hsv, Hlev⟩
  ihave H := (Entails.of_eq (bigSep_sep' (s := Finset.univ) (Φ := fun k : Fin 10 => (openTok ER ((c : Thread nD τ), osem k) : sProp 𝕄))
    (Ψ := fun k : Fin 10 => semVal ((c : Thread nD τ), osem k) 0)).symm) $$ [Hop Hsv]
  · isplitl [Hop]; · iexact Hop
    iexact Hsv
  ihave H := ((bigSep_with_persistent (fun k _ => open_one m K c k)).trans (bigSep_fupd _ _)) $$ [H]
  · isplitr; · iexact HR
    iexact H
  imod H with H
  imodintro
  isplitl [Hat H Hpay]
  · iexists K
    isplitr; · iexact HR
    isplitl [Hat]; · iexact Hat
    isplitl [H]; · iexact H
    iexact Hpay
  isplitl [Hlev]; · iexact Hlev
  iexact Hcr

/-! ## The levels -/

theorem cut (c : Dev nD) (g : GSem nD τ sig) (i : Unit) (h : 0 < O₀ c g i) : i ∈ L g ∧ (0 : ℕ) < lv g i := by
  have hg : ((g = dmaCell (rgt c) 13 ∨ g = dmaCell (rgt c) 12) ∨ g = dmaCell (lft c) 11 ∨ g = dmaCell (lft c) 10)
      ∨ g = barCell (rgt c) ∨ g = barCell (lft c) := by
    unfold O₀ at h
    rw [Pi.add_apply, Finsupp.add_apply, Pi.add_apply, Finsupp.add_apply] at h
    rcases Nat.add_pos_iff_pos_or_pos.mp h with h | h
    · rcases Nat.add_pos_iff_pos_or_pos.mp h with h | h
      · exact .inl (O₁_pos c h)
      · exact .inr (.inl (tally_pos h))
    · exact .inr (.inr (tally_pos h))
  rcases hg with ((rfl | rfl) | (rfl | rfl)) | (rfl | rfl) <;>
    exact ⟨by rw [L_tc]; exact Finset.mem_singleton_self _, by first | exact (by decide : 0 < 2) | exact (by decide : 0 < 1)⟩

theorem cut_owed (c : Dev nD) (t : Fin ((Pipeline.pin (pcfgs (F := F)) adm 1).N + 1)) (g : GSem nD τ sig) (i : Unit)
    (h : 0 < (pdats m 1 c).owed t g i) : i ∈ L g ∧ (0 : ℕ) < lv g i := by
  rw [show (pdats m 1 c).owed t = if t.val = 0 then O₀ c else 0 from rfl] at h
  split at h
  · exact cut c g i h
  · exact absurd h (Nat.lt_irrefl 0)

/-! ## The regions -/

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

set_option backward.isDefEq.respectTransparency.types false in
def reg0 : RegionSeg (pcfgs (F := F)) adm (pdats m) () defs₀ 𝒱₀ L lv 0 :=
  RegionSeg.ofHeld (pcfgs (F := F)) adm (pdats m) () defs₀ 𝒱₀ L lv 0 O₀ (fun c => iprop(∃ r, prngReg c r)) (fun c => iprop(∃ r, prngReg c r))
    launch0.toP rfl (fun c => (body0 m c).loose) (fun _ _ => rfl) (fun _ => rfl) (share0 m)
    (fun _ => .rfl) (fun _ => .rfl) (fun _ => 0)
    ⟨fun c w s => by rw [L_tc]; exact Finset.mem_singleton_self _,
      fun c w s => by fin_cases w <;> fin_cases s <;> exact Nat.le_refl 0,
      fun c g i h => cut c g i h⟩
    (fun c => iprop(StableHlo.held (c.tc : Thread nD τ) (Pipeline.ucRefs τ sig \ Pipeline.arrRefs spec0) (V1 m c) ∗ Tk m c))
    (V1 m) (W2 m)
    (fun _ _ => rfl)
    (fun c w => match w with
      | ⟨0, _⟩ => ((dat0 m c).arrAt_in 0 rfl _).trans (W2_of m c main_v1 (by decide)).symm
      | ⟨1, _⟩ => ((dat0 m c).arrAt_in 1 rfl _).trans (W2_of m c main_arg1 (by decide)).symm
      | ⟨2, _⟩ => (last0 m c).trans (W2_v4 m c).symm)

set_option backward.isDefEq.respectTransparency.types false in
def reg1 : RegionSeg (pcfgs (F := F)) adm (pdats m) () defs₀ 𝒱₀ L lv 1 :=
  RegionSeg.ofTalk (pcfgs (F := F)) adm (pdats m) () defs₀ 𝒱₀ L lv 1 osem (by decide : Pipeline.OwnSemFacts spec1 osem)
    Hs Sr Hs_sub launch1.toP rfl (fun c => (body1 m c).loose)
    (fun _ => 0) O₀ (fun c => (owed1_first m c).trans (zero_add _).symm) (owed1_last m) (fun _ => rfl) (share1 m)
    (W2 m) (W3 m)
    (fun c b hb => by
      unfold W3
      refine Function.update_of_ne (fun e => ?_) _ _
      subst e; revert hb; decide)
    (Tk m) Yk (Xk m) Yk (hopen1 m) (fun c => Entails.of_eq (Φ1_first m c).symm) (fun c => Entails.of_eq (Φ1_last m c))
    (fun c => by iintro H; imodintro; iexact H)
    (fun _ => 0)
    ⟨fun c w s => by rw [L_tc]; exact Finset.mem_singleton_self _,
      fun c w s => by fin_cases w <;> fin_cases s <;> exact Nat.le_refl 0,
      fun c t g i h => cut_owed m c t g i h⟩
    (fun _ => iprop(emp))
    (fun _ _ => rfl)
    (fun c w => match w with
      | ⟨0, _⟩ => ((dat1 m c).arrAt_in 0 rfl _).trans (W3_of m c main_v4 (by decide)).symm
      | ⟨1, _⟩ => ((dat1 m c).arrAt_in 1 rfl _).trans (W3_of m c main_arg4 (by decide)).symm
      | ⟨2, _⟩ => (last1 m c).trans (W3_v5 m c).symm)

end Cert.KernelIdeal.Halo
-- ==== Proof.Launch.lean ====
/-
  The launch: the invariants of every device's barrier cell and ten transfer cells made, the tokens dealt so that each device
  holds those it pays with, the credit each device waits with; and the run of the program from any memory.
-/
module

public import proofs.«01_k».proof.Proof.Calls
public import Idealize.ShloMosaic.Lib.Pipeline.Regions
public import Idealize.ShloMosaic.Lib.Quiescent

@[expose] public section

noncomputable section

namespace Cert.KernelIdeal.Halo

open Cert.KernelIdeal Cert.KernelIdeal.Gen Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The cells and the tokens -/

abbrev tsem : Fin 12 → SemLoc sig := fun
  | 0 => .reg barS | 1 => .reg barS | 2 => osem 0 | 3 => osem 1 | 4 => osem 2 | 5 => osem 3 | 6 => osem 4 | 7 => osem 5
  | 8 => osem 6 | 9 => osem 7 | 10 => osem 8 | 11 => osem 9
abbrev tduty : Fin 12 → Fin 2 := fun | 1 => 1 | _ => 0
theorem tsem_inj : Function.Injective (fun k : Fin 12 => (tsem k, tduty k)) := by decide

/-- Every duty of every cell of every device, in round 0. -/
def talkToks : Finset (GSem nD τ sig × ℕ × Fin 2) :=
  Finset.univ.map ⟨fun ck : Dev nD × Fin 12 => (((ck.1 : Thread nD τ), tsem ck.2), 0, tduty ck.2), fun _ _ h =>
    Prod.ext (congrArg (fun t : GSem nD τ sig × ℕ × Fin 2 => t.1.1.1) h)
      (tsem_inj (Prod.ext (congrArg (fun t : GSem nD τ sig × ℕ × Fin 2 => t.1.2) h)
        (congrArg (fun t : GSem nD τ sig × ℕ × Fin 2 => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the staging cells' beside the protocol's. -/
def u₀ : UU :=
  (initOf (Pipeline.cells cfgs cellOf_inj) (Pipeline.launchToks cfgs cellOf_inj),
    launchOf barCells scCells talkToks)

/-- The protocol's element, whole, on device 0 until it is dealt. -/
def G (c : Dev nD) : sProp 𝕄 := if c = 0 then BI.own (ER (launchOf barCells scCells talkToks)) else iprop(emp)
theorem bigSep_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The tokens of one device's cells. -/
def toks (c : Dev nD) : sProp 𝕄 :=
  iprop(dutyTok ER (barCell c) 0 0
    ∗ dutyTok ER (barCell c) 0 1
    ∗ dutyTok ER (dmaCell c 6) 0 0
    ∗ dutyTok ER (dmaCell c 7) 0 0
    ∗ dutyTok ER (dmaCell c 8) 0 0
    ∗ dutyTok ER (dmaCell c 9) 0 0
    ∗ dutyTok ER (dmaCell c 10) 0 0
    ∗ dutyTok ER (dmaCell c 11) 0 0
    ∗ dutyTok ER (dmaCell c 12) 0 0
    ∗ dutyTok ER (dmaCell c 13) 0 0
    ∗ dutyTok ER (dmaCell c 14) 0 0
    ∗ dutyTok ER (dmaCell c 15) 0 0)

theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

theorem toks_eq : bigSep talkToks (fun x => (dutyTok ER x.1 x.2.1 x.2.2 : sProp 𝕄)) = bigSep Finset.univ fun c : Dev nD => toks c := by
  unfold talkToks; rw [bigSep_map, bigSep_univ_prod]
  exact bigSep_congr fun c _ => by unfold toks; rw [bigSep_fin12]; rfl

/-- Each token handed to the device that pays with it. -/
theorem toks_around : (bigSep Finset.univ fun c : Dev nD => (toks c : sProp 𝕄)) ⊢ bigSep Finset.univ fun c : Dev nD => pays c := by
  unfold toks pays
  simp only [bigSep_sep']
  exact BI.sep_mono (Entails.of_eq (bigSep_univ_equiv ringL _)) (BI.sep_mono (Entails.of_eq (bigSep_univ_equiv ringR _)) (BI.sep_mono (BI.Entails.refl _) (BI.sep_mono (BI.Entails.refl _) (BI.sep_mono (BI.Entails.refl _) (BI.sep_mono (BI.Entails.refl _) (BI.sep_mono (Entails.of_eq (bigSep_univ_equiv ringL _)) (BI.sep_mono (Entails.of_eq (bigSep_univ_equiv ringL _)) (BI.sep_mono (Entails.of_eq (bigSep_univ_equiv ringR _)) (BI.sep_mono (Entails.of_eq (bigSep_univ_equiv ringR _)) (BI.sep_mono (BI.Entails.refl _) (BI.Entails.refl _)))))))))))

/-! ## The credit -/

theorem tally_at (x y : Dev nD) (s t : SemLoc sig) (n : ℕ) :
    tallyAt ((x : Thread nD τ), s) () n ((y : Thread nD τ), t) () = if x = y ∧ s = t then n else 0 := by
  rw [tallyAt_apply]
  by_cases h : x = y ∧ s = t
  · obtain ⟨rfl, rfl⟩ := h; rw [if_pos ⟨rfl, rfl⟩, if_pos ⟨rfl, rfl⟩]
  · rw [if_neg h, if_neg]
    rintro ⟨e, -⟩
    exact h ⟨(congrArg (fun g : GSem nD τ sig => g.1.1) e).symm, (congrArg Prod.snd e).symm⟩

theorem owed_at (d c : Dev nD) (s : SemLoc sig) : O₀ d ((c : Thread nD τ), s) () =
    (if rgt d = c ∧ osem 7 = s then N else 0) + (if rgt d = c ∧ osem 6 = s then N else 0)
      + (if lft d = c ∧ osem 5 = s then N else 0) + (if lft d = c ∧ osem 4 = s then N else 0)
      + (if rgt d = c ∧ .reg barS = s then 1 else 0) + (if lft d = c ∧ .reg barS = s then 1 else 0) := by
  rw [← tally_at, ← tally_at, ← tally_at, ← tally_at, ← tally_at, ← tally_at]; rfl

theorem sum_rgt (c : Dev nD) (n : ℕ) : (∑ d : Dev nD, if rgt d = c then n else 0) = n := by
  rw [Finset.sum_congr rfl fun d _ => show (if rgt d = c then n else 0) = if d = lft c then n else 0 from
    if_congr ⟨fun h => by rw [← h, lft_rgt], fun h => by rw [h, rgt_lft]⟩ rfl rfl, Finset.sum_ite_eq' Finset.univ (lft c) fun _ => n,
    if_pos (Finset.mem_univ _)]
theorem sum_lft (c : Dev nD) (n : ℕ) : (∑ d : Dev nD, if lft d = c then n else 0) = n := by
  rw [Finset.sum_congr rfl fun d _ => show (if lft d = c then n else 0) = if d = rgt c then n else 0 from
    if_congr ⟨fun h => by rw [← h, rgt_lft], fun h => by rw [h, lft_rgt]⟩ rfl rfl, Finset.sum_ite_eq' Finset.univ (rgt c) fun _ => n,
    if_pos (Finset.mem_univ _)]

theorem due_bar (c : Dev nD) : (∑ d : Dev nD, O₀ d ((c : Thread nD τ), .reg barS) ()) = 2 := by
  simp only [owed_at, show ∀ k, ¬ osem k = .reg barS from osem_ne_bar, and_false, and_true, if_false, Nat.zero_add]
  rw [Finset.sum_add_distrib, sum_rgt, sum_lft]
theorem due_left (c : Dev nD) (k : Fin 10) (h : k = 4 ∨ k = 5) : (∑ d : Dev nD, O₀ d ((c : Thread nD τ), osem k) ()) = N := by
  rcases h with rfl | rfl <;>
    simp only [owed_at, osem_inj.eq_iff, show ∀ k, ¬ .reg barS = osem k from fun k h => osem_ne_bar k h.symm, show ¬ (7 : Fin 10) = 4 from by decide,
      show ¬ (6 : Fin 10) = 4 from by decide, show ¬ (5 : Fin 10) = 4 from by decide, show ¬ (7 : Fin 10) = 5 from by decide,
      show ¬ (6 : Fin 10) = 5 from by decide, show ¬ (4 : Fin 10) = 5 from by decide, and_false, and_true, if_false, Nat.zero_add, Nat.add_zero] <;>
    exact sum_lft c N
theorem due_right (c : Dev nD) (k : Fin 10) (h : k = 6 ∨ k = 7) : (∑ d : Dev nD, O₀ d ((c : Thread nD τ), osem k) ()) = N := by
  rcases h with rfl | rfl <;>
    simp only [owed_at, osem_inj.eq_iff, show ∀ k, ¬ .reg barS = osem k from fun k h => osem_ne_bar k h.symm, show ¬ (7 : Fin 10) = 6 from by decide,
      show ¬ (5 : Fin 10) = 6 from by decide, show ¬ (4 : Fin 10) = 6 from by decide, show ¬ (6 : Fin 10) = 7 from by decide,
      show ¬ (5 : Fin 10) = 7 from by decide, show ¬ (4 : Fin 10) = 7 from by decide, and_false, and_true, if_false, Nat.zero_add, Nat.add_zero] <;>
    exact sum_rgt c N

theorem launch_at (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, h]

abbrev crSem : Fin 5 → SemLoc sig := fun | 0 => .reg barS | 1 => osem 4 | 2 => osem 5 | 3 => osem 6 | 4 => osem 7
theorem crSem_inj : Function.Injective crSem := by decide

theorem creds (c : Dev nD) : (Pipeline.launchCred O₀ c : sProp 𝕄) ⊢ credits c := by
  unfold Pipeline.launchCred credits
  refine (bigSep_subset (Finset.subset_univ (Finset.univ.map ⟨crSem, crSem_inj⟩))).trans ?_
  rw [bigSep_map, show (Finset.univ : Finset (Fin 5)) = {0, 1, 2, 3, 4} from by decide, bigSep_insert (by decide), bigSep_insert (by decide),
    bigSep_insert (by decide), bigSep_insert (by decide), bigSep_singleton]
  dsimp only [Function.Embedding.coeFn_mk]
  rw [launch_at c (.reg barS) 2 (due_bar c), launch_at c (osem 4) N (due_left c 4 (.inl rfl)), launch_at c (osem 5) N (due_left c 5 (.inr rfl)),
    launch_at c (osem 6) N (due_right c 6 (.inl rfl)), launch_at c (osem 7) N (due_right c 7 (.inr rfl))]
  exact BI.Entails.refl _

/-! ## The start -/

/-- What a device carries beside its buffers until the attention. -/
abbrev E (c : Dev nD) : sProp 𝕄 := iprop((∃ r, prngReg c r) ∗ Tk m c ∗ debt c (O₀ c))
abbrev T₀ (c : Dev nD) : sProp 𝕄 := iprop(StableHlo.held (c : Thread nD τ) (Pipeline.ucRefs τ sig) (V0 m c) ∗ E m c)
abbrev Tₙ (c : Dev nD) : sProp 𝕄 := iprop(StableHlo.held (c : Thread nD τ) (Pipeline.ucRefs τ sig) (W3 m c) ∗ semVal (barCell c) 0)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a core's launch holdings is not the protocol's, and what of the protocol's is its own. -/
def bundle (c : Dev nD) : sProp 𝕄 :=
  iprop(StableHlo.held (c : Thread nD τ) (Pipeline.ucRefs τ sig) (V0 m c) ∗ credits c ∗ debt c (O₀ c) ∗ ∃ r, prngReg c r)
def linear (c : Dev nD) : sProp 𝕄 :=
  iprop(atPos ER (barCell c) 0 ∅ 0 ∗ (bigSep Finset.univ fun k : Fin 10 => openTok ER ((c : Thread nD τ), osem k)) ∗ pays c)

theorem T₀_intro (K : GSem nD τ sig → ℕ) (c : Dev nD) :
    iprop(records (keys m) (vals m) K ∗ (linear c ∗ bundle m c)) ⊢ T₀ m c := by
  unfold bundle linear T₀ E Tk ghost
  iintro ⟨#HR, ⟨Hat, Hop, Hpay⟩, Hh, Hcr, HO, Hp⟩
  isplitl [Hh]; · iexact Hh
  isplitl [Hp]; · iexact Hp
  isplitr [HO]
  · isplitl [Hat Hop Hpay]
    · iexists K
      isplitr; · iexact HR
      isplitl [Hat]; · iexact Hat
      isplitl [Hop]; · iexact Hop
      iexact Hpay
    iexact Hcr
  iexact HO

theorem core_start (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
  unfold bundle debt
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexists ∅; iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 10 => (openTok ER ((c : Thread nD τ), osem k) : sProp 𝕄)) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_start m ρ c) $$ H
  ihave H := (Entails.of_eq (bigSep_sep' (s := Finset.univ) (Φ := bundle m) (Ψ := fun c : Dev nD => iprop(semVal (barCell c) 0 ∗ G c)))) $$ H
  icases H with ⟨HB, H⟩
  ihave H := (Entails.of_eq (bigSep_sep' (s := Finset.univ) (Φ := fun c : Dev nD => semVal (barCell c) 0) (Ψ := G (F := F)))) $$ H
  icases H with ⟨Hv, HG⟩
  ihave Hu := (Entails.of_eq (bigSep_G (F := F))) $$ HG
  imod (Rounds.fund_launch ER (haloRd (keys m) (vals m)) disjoint_cells (fun g _ h => h) talkToks) $$ [Hv Hu] with ⟨%K, -, #Hinv, #Hr, Hat, Hopen, Htok⟩
  · isplitl [Hv]
    · iapply hv $$ Hv
    · iexact Hu
  ihave Hat := hat $$ Hat
  ihave Hopen := hopen $$ Hopen
  ihave Htok := (Entails.of_eq (toks_eq (F := F))) $$ Htok
  ihave Htok := (toks_around (F := F)) $$ Htok
  imodintro
  iapply (bigSep_with_persistent (R := records (keys m) (vals m) K) (Φ := fun c => iprop(linear c ∗ bundle m c)) fun c _ => T₀_intro m K c)
  isplitr
  · unfold records
    isplitr; · iexact Hinv
    iexact Hr
  rw [bigSep_sep']
  isplitr [HB]
  · unfold linear
    rw [bigSep_sep', bigSep_sep']
    isplitl [Hat]; · iexact Hat
    isplitl [Hopen]; · iexact Hopen
    iexact Htok
  · iexact HB

/-! ## The thread states between the regions -/

theorem W2_off (c : Dev nD) : ∀ b ∈ Pipeline.ucRefs τ sig \ Pipeline.arrRefs spec0, V1 m c b = W2 m c b := fun b hb => by
  unfold W2
  refine (Function.update_of_ne (fun e => ?_) _ _).symm
  subst e; revert hb; decide

theorem enter0 (c : Dev nD) :
    iprop(StableHlo.held (c : Thread nD τ) (Pipeline.ucRefs τ sig) (V1 m c) ∗ E m c) ⊢ (reg0 m).pre c := by
  show _ ⊢ iprop(StableHlo.held (c.tc : Thread nD τ) (Pipeline.arrRefs spec0) (V1 m c) ∗ (∃ r, prngReg c r)
    ∗ (StableHlo.held (c.tc : Thread nD τ) (Pipeline.ucRefs τ sig \ Pipeline.arrRefs spec0) (V1 m c) ∗ Tk m c) ∗ debt c (O₀ c))
  rw [StableHlo.held_sub_split (c.tc : Thread nD τ) (Pipeline.arrRefs_sub_ucRefs spec0 (by decide)) (V1 m c)]
  iintro ⟨⟨Ha, Hr⟩, Hp, HT, HO⟩
  isplitl [Ha]; · iexact Ha
  isplitl [Hp]; · iexact Hp
  isplitl [Hr HT]; · isplitl [Hr] <;> iassumption
  iexact HO

theorem leave0 (c : Dev nD) :
    (reg0 m).post c ⊢ iprop(StableHlo.held (c : Thread nD τ) (Pipeline.ucRefs τ sig) (W2 m c) ∗ E m c) := by
  show iprop(StableHlo.held (c.tc : Thread nD τ) (Pipeline.arrRefs spec0) (W2 m c) ∗ (∃ r, prngReg c r)
    ∗ (StableHlo.held (c.tc : Thread nD τ) (Pipeline.ucRefs τ sig \ Pipeline.arrRefs spec0) (V1 m c) ∗ Tk m c) ∗ debt c (O₀ c)) ⊢ _
  rw [StableHlo.held_sub_split (c.tc : Thread nD τ) (Pipeline.arrRefs_sub_ucRefs spec0 (by decide)) (W2 m c),
    StableHlo.held_congr (c.tc : Thread nD τ) (W2_off m c)]
  iintro ⟨Ha, Hp, ⟨Hr, HT⟩, HO⟩
  isplitl [Ha Hr]; · isplitl [Ha] <;> iassumption
  isplitl [Hp]; · iexact Hp
  isplitl [HT] <;> iassumption

theorem enter1 (c : Dev nD) :
    iprop(StableHlo.held (c : Thread nD τ) (Pipeline.ucRefs τ sig) (W2 m c) ∗ E m c) ⊢ (reg1 m).pre c := by
  show _ ⊢ iprop(StableHlo.held (c.tc : Thread nD τ) (Pipeline.arrRefs spec1) (W2 m c) ∗ (∃ r, prngReg c r)
    ∗ (StableHlo.held (c.tc : Thread nD τ) Sr (W2 m c) ∗ emp) ∗ Tk m c ∗ debt c (0 + O₀ c))
  rw [StableHlo.held_sub_split (c.tc : Thread nD τ) (Pipeline.arrRefs_sub_ucRefs spec1 (by decide)) (W2 m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem leave1 (c : Dev nD) : (reg1 m).post c ⊢ iprop(Tₙ m c ∗ debt c 0) := by
  show iprop(StableHlo.held (c.tc : Thread nD τ) (Pipeline.arrRefs spec1) (W3 m c) ∗ (∃ r, prngReg c r)
    ∗ (StableHlo.held (c.tc : Thread nD τ) Sr (W3 m c) ∗ emp) ∗ Yk c ∗ debt c 0) ⊢ _
  unfold Tₙ Yk
  rw [StableHlo.held_sub_split (c.tc : Thread nD τ) (Pipeline.arrRefs_sub_ucRefs spec1 (by decide)) (W3 m c)]
  iintro ⟨Ha, -, ⟨Hr, -⟩, Hb, HO⟩
  isplitr [HO]
  · isplitl [Ha Hr]; · isplitl [Ha] <;> iassumption
    iexact Hb
  iexact HO

/-! ## The run -/

theorem unscoped_eq : ∀ sm : SemLoc sig, sm.isScoped .tc = false → sm = .reg barS := by decide

abbrev list (c : Dev nD) := segs m 𝒱₀ L lv (fun _ => E m) () (pdats m) (reg0 m) (reg1 m) c

theorem W3_arg (c : Dev nD) (r : Ref sig .tc) (h5 : r ≠ main_v5) (h4 : r ≠ main_v4) (h : r ∉ hostOps0_W) :
    W3 m c r = m ((c.tc : Thread nD τ).loc r) := by
  rw [W3_of m c r h5, W2_of m c r h4, V1_of m c r h]

set_option backward.isDefEq.respectTransparency.types false in
/-- From any memory with zero counters the program terminates on all four devices; the arguments are as launched, each device's
    result is `res`, and every counter is zero. -/
theorem run_main [∀ e, Nonempty (Elt F e)] : θ_run defs (onTc (τ := τ) (main (F := F))) ⟨m, fun _ => 0, ρ⟩
    (fun r => (∀ c : Dev nD, r.2.mem ((c : Thread nD τ).loc main_v5) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_dev_sems (pcfgs (F := F)) adm (pdats m) () cellOf_inj EP defs₀ 𝒱₀ L lv m ρ main (list m)
    (fun c Q => by
      rewrite [main_chain c, Seg.run_eq_chain,
        show (list m c).map Seg.prog = [StableHlo.seq hostOps0, Prog.lift (.customCall (Pipeline.entry 0) ()),
          Prog.lift (.customCall (Pipeline.entry 1) ())] from rfl]
      dsimp (config := { failIfUnchanged := false }) only
      exact BI.Entails.refl _)
    (fun c => by simp only [list, segs, Seg.pipes_host, Seg.pipes_region, Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := fun c => ⟨.rfl, enter0 m c, (leave0 m c).trans (enter1 m c), leave1 m c⟩)
    (hinit := init m ρ)
    (QY := fun c s => (∀ b ∈ Pipeline.ucRefs τ sig, s.mem (((c : Thread nD τ).1, b)) = W3 m c b) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have rd (r : Ref sig .tc) (hr : r.isScoped = false) : s.mem ((c : Thread nD τ).loc r) = W3 m c r :=
          (h c).1 (Proc.devRef .tc r) (Finset.mem_filter.mpr ⟨StableHlo.devRef_mem_tcRefs r, fun e => Bool.false_ne_true (hr.symm.trans e)⟩)
        exact ⟨(rd main_v5 (by decide)).trans (W3_v5 m c),
          (rd main_arg0 (by decide)).trans (W3_arg m c _ (by decide) (by decide) (by decide)),
          (rd main_arg1 (by decide)).trans (W3_arg m c _ (by decide) (by decide) (by decide)),
          (rd main_arg2 (by decide)).trans (W3_arg m c _ (by decide) (by decide) (by decide)),
          (rd main_arg3 (by decide)).trans (W3_arg m c _ (by decide) (by decide) (by decide)),
          (rd main_arg4 (by decide)).trans (W3_arg m c _ (by decide) (by decide) (by decide))⟩,
      sem_eq_zero hs fun c sm hsm => by
        obtain rfl := unscoped_eq sm hsm
        exact (h c).2⟩)

end Cert.KernelIdeal.Halo
-- ==== Proof.Blocks.lean ====
/-
  The operands of the kernel from the arguments, element by element: a device's rows of each array, and the keys and values
  extended by the neighbours' rows.
-/
module

public import proofs.«01_k».proof.Proof.Regions
public import Idealize.ShloMosaic.Lib.StableHlo.ReadAt
public import Idealize.ShloMosaic.Lib.Pointwise
public import Idealize.ShloMosaic.Lib.Layout

@[expose] public section

set_option maxRecDepth 16384

noncomputable section

namespace Cert.KernelIdeal.Halo

open Cert.KernelIdeal Cert.KernelIdeal.Gen Cert.KernelIdeal.Facts
open Idealize.ShloMosaic Idealize.ShloMosaic.TcCoe

variable (m : (ℓ : Loc nD τ sig) → Buf (Elt Ideal) ℓ) (c : Dev nD)

theorem v1_at (i e : Fin 1024) :
    (V1 m c main_v1 (ix2 i e) : EReal) = m ((c.tc : Thread nD τ).loc main_arg0) (ix3 0 i e) := by
  unfold V1
  after_reads_at

theorem v2_at (i j : Fin 1024) : (V1 m c main_v2 (ix2 i j) : EReal)
      = m ((c.tc : Thread nD τ).loc main_arg2) (ix4 0 i ⟨j.val / 128, by omega⟩ ⟨j.val % 128, by omega⟩) := by
  unfold V1
  after_reads_at

theorem v3_at (i j : Fin 1024) : (V1 m c main_v3 (ix2 i j) : EReal)
      = m ((c.tc : Thread nD τ).loc main_arg3) (ix4 0 i ⟨j.val / 128, by omega⟩ ⟨j.val % 128, by omega⟩) := by
  unfold V1
  after_reads_at

theorem a1_at (i j : Fin 1024) : (V1 m c main_arg1 (ix2 i j) : EReal) = m ((c.tc : Thread nD τ).loc main_arg1) (ix2 i j) := by
  unfold V1
  after_reads_at

theorem a4_at (i j : Fin 1024) : (V1 m c main_arg4 (ix2 i j) : EReal) = m ((c.tc : Thread nD τ).loc main_arg4) (ix2 i j) := by
  unfold V1
  after_reads_at

/-- The row of the whole array that row `x` of a device's extended array is, counted round the ring. -/
abbrev wrap (x : ℕ) : Fin 4096 := ⟨(1024 * c.val + x + 3968) % 4096, Nat.mod_lt _ (by decide)⟩

/-- Where every device holds its rows of one array, the extended array holds rows of it too. -/
theorem full_at {α : Type} (A : Dev nD → S1024x1024.Idx → α) (G : Fin 4096 → Fin 1024 → α)
    (hA : ∀ (c : Dev nD) (i j : Fin 1024), A c (ix2 i j) = G ⟨1024 * c.val + i.val, by have hc : c.val < 4 := c.isLt; omega⟩ j)
    (x : Fin 1280) (j : Fin 1024) : full A c (ix2 x j) = G (wrap c x.val) j := by
  have hc : c.val < 4 := c.isLt
  have hx : x.val < 1280 := x.isLt
  unfold full
  by_cases h1 : x.val < 128
  · rw [ext_lo _ _ _ _ (ix2 (n0 := 1024) (n1 := 1024) ⟨x.val + 896, by omega⟩ j) rfl rfl, hA]
    refine congrArg (G · j) (Fin.ext ?_)
    show 1024 * ((c.val + 3) % 4) + (x.val + 896) = (1024 * c.val + x.val + 3968) % 4096
    omega
  · by_cases h2 : x.val < 1152
    · rw [ext_mid _ _ _ _ (ix2 (n0 := 1024) (n1 := 1024) ⟨x.val - 128, by omega⟩ j) (by show x.val = x.val - 128 + 128; omega) rfl, hA]
      refine congrArg (G · j) (Fin.ext ?_)
      show 1024 * c.val + (x.val - 128) = (1024 * c.val + x.val + 3968) % 4096
      omega
    · rw [ext_hi _ _ _ _ (ix2 (n0 := 1024) (n1 := 1024) ⟨x.val - 1152, by omega⟩ j) (by show x.val = x.val - 1152 + 1152; omega) rfl, hA]
      refine congrArg (G · j) (Fin.ext ?_)
      show 1024 * ((c.val + 1) % 4) + (x.val - 1152) = (1024 * c.val + x.val + 3968) % 4096
      omega

/-- A device's block of an array of three axes, and of four, cut along the second. -/
theorem block3_at {α : Type} (v : (⟨3, ![1, 4096, 1024]⟩ : Shape).Idx → α) (c : Fin 4) (i e : Fin 1024) :
    Layout.block ⟨3, ![1, 1024, 1024]⟩ ⟨3, ![1, 4096, 1024]⟩ 1 4 c v (by decide) (ix3 0 i e) = v (ix3 0 ⟨1024 * c.val + i.val, by omega⟩ e) := by
  rw [Layout.block_apply]
  refine congrArg v (funext fun b => Fin.ext ?_)
  rw [Layout.Tiles.idx_val]
  match b with
  | ⟨0, _⟩ => rfl
  | ⟨1, _⟩ => exact (by show c.val * 1024 + i.val = 1024 * c.val + i.val; omega)
  | ⟨2, _⟩ => rfl

theorem block4_at {α : Type} (v : (⟨4, ![1, 4096, 8, 128]⟩ : Shape).Idx → α) (c : Fin 4) (i : Fin 1024) (h : Fin 8) (d : Fin 128) :
    Layout.block ⟨4, ![1, 1024, 8, 128]⟩ ⟨4, ![1, 4096, 8, 128]⟩ 1 4 c v (by decide) (ix4 0 i h d)
      = v (ix4 0 ⟨1024 * c.val + i.val, by omega⟩ h d) := by
  rw [Layout.block_apply]
  refine congrArg v (funext fun b => Fin.ext ?_)
  rw [Layout.Tiles.idx_val]
  match b with
  | ⟨0, _⟩ => rfl
  | ⟨1, _⟩ => exact (by show c.val * 1024 + i.val = 1024 * c.val + i.val; omega)
  | ⟨2, _⟩ => rfl
  | ⟨3, _⟩ => rfl

end Cert.KernelIdeal.Halo
-- ==== Proof.Softmax.lean ====
/-
  A row of attention over the extended reals, apart from any program: real scores, a set of keys seen, values that may be
  infinite. The mask is minus infinity. Written with the maximum taken off and each weight divided by the sum (the textbook's
  softmax), or as one quotient at the end over a window of the keys, the row is the same.
-/
module

public import Idealize.ShloMosaic.PureOps.Ideal
public import Idealize.ShloMosaic.PureOps.Ideal.Laws

@[expose] public section

noncomputable section

namespace Cert.Attention

open Idealize.ShloMosaic

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

section Row
variable {n : ℕ} (r : Fin n → ℝ) (B : Fin n → Prop) [DecidablePred B] (v : Fin n → EReal)

/-- The sum of the exponentials of the scores of the keys seen. -/
def total : ℝ := ∑ y, if B y then Real.exp (r y) else 0

/-- The row: each seen key's value by its weight. -/
def row : EReal := ∑ x, if B x then v x * ((Real.exp (r x) / total r B : ℝ) : EReal) else 0

theorem total_pos (hB : ∃ x, B x) : 0 < total r B := by
  obtain ⟨x, hx⟩ := hB
  refine Finset.sum_pos' (fun y _ => ?_) ⟨x, Finset.mem_univ _, ?_⟩
  · split
    · exact (Real.exp_pos _).le
    · exact le_refl _
  · rw [if_pos hx]; exact Real.exp_pos _

theorem exp_masked (x : Fin n) :
    Ideal.exp ((r x : EReal) + if B x then 0 else ⊥) = ((if B x then Real.exp (r x) else 0 : ℝ) : EReal) := by
  split
  · rw [add_zero]; rfl
  · rw [EReal.add_bot]; simp

/-- The row as a window of keys computes it: an additive mask, one quotient at the end. -/
theorem window_row (hB : ∃ x, B x) :
    (∑ x, Ideal.exp ((r x : EReal) + if B x then 0 else ⊥) * v x)
      * Ideal.div 1 (∑ x, Ideal.exp ((r x : EReal) + if B x then 0 else ⊥)) = row r B v := by
  have hp := total_pos r B hB
  simp only [exp_masked r B]
  rw [sum_coe]
  change (∑ x, _) * Ideal.div 1 ((total r B : ℝ) : EReal) = _
  rw [Ideal.div_coe hp.ne', one_mul, sum_mul_real _ _ (by positivity), row]
  refine Finset.sum_congr rfl fun x _ => ?_
  by_cases h : B x
  · rw [if_pos h, if_pos h, mul_comm ((Real.exp (r x) : ℝ) : EReal) (v x), mul_assoc, ← EReal.coe_mul]
    refine congrArg (fun z : ℝ => v x * (z : EReal)) ?_
    rw [mul_one_div]
  · rw [if_neg h, if_neg h]; simp

/-- The greatest masked score of a row that sees a key is real. -/
theorem max_real (hB : ∃ x, B x) :
    ∃ M : ℝ, Finset.fold max ⊥ (fun j => if B j then (r j : EReal) else ⊥) Finset.univ = (M : EReal) := by
  set M := Finset.fold max ⊥ (fun j => if B j then (r j : EReal) else ⊥) Finset.univ with hM
  obtain ⟨x, hx⟩ := hB
  have hlo : (r x : EReal) ≤ M := by
    rw [hM, Finset.le_fold_max]
    exact Or.inr ⟨x, Finset.mem_univ _, by rw [if_pos hx]⟩
  have hhi : M < ⊤ := by
    rw [hM, Finset.fold_max_lt]
    refine ⟨bot_lt_top, fun y _ => ?_⟩
    split
    · exact EReal.coe_lt_top _
    · exact bot_lt_top
  have hb : M ≠ ⊥ := fun e => (EReal.bot_lt_coe (r x)).not_ge (e ▸ hlo)
  exact ⟨M.toReal, (EReal.coe_toReal hhi.ne hb).symm⟩

theorem exp_shifted (M : ℝ) (x : Fin n) : Ideal.exp ((if B x then (r x : EReal) else ⊥) - (M : EReal))
    = ((if B x then Real.exp (r x) * Real.exp (-M) else 0 : ℝ) : EReal) := by
  split
  · rw [← EReal.coe_sub, Ideal.exp_coe, sub_eq_add_neg, Real.exp_add]
  · rw [sub_eq_add_neg, EReal.bot_add]; simp

/-- The row as the textbook writes it: the maximum taken off, each weight divided by the sum. -/
theorem softmax_row (hB : ∃ x, B x) :
    (∑ j, v j * Ideal.div
        (Ideal.exp ((if B j then (r j : EReal) else ⊥) - Finset.fold max ⊥ (fun j => if B j then (r j : EReal) else ⊥) Finset.univ))
        (∑ j, Ideal.exp ((if B j then (r j : EReal) else ⊥) - Finset.fold max ⊥ (fun j => if B j then (r j : EReal) else ⊥) Finset.univ)))
      = row r B v := by
  obtain ⟨M, hM⟩ := max_real r B hB
  have hp := total_pos r B hB
  have he : (∑ x, if B x then Real.exp (r x) * Real.exp (-M) else 0) = total r B * Real.exp (-M) := by
    unfold total
    rw [Finset.sum_mul]
    refine Finset.sum_congr rfl fun x _ => ?_
    split
    · rfl
    · rw [zero_mul]
  rw [hM]
  simp only [exp_shifted r B M]
  rw [sum_coe, he, row]
  refine Finset.sum_congr rfl fun x _ => ?_
  rw [Ideal.div_coe (mul_pos hp (Real.exp_pos _)).ne', ← EReal.coe_mul]
  by_cases h : B x
  · rw [if_pos h, if_pos h]
    refine congrArg (fun z : ℝ => v x * (z : EReal)) ?_
    have h1 := (Real.exp_pos (-M)).ne'
    have h2 := hp.ne'
    field_simp
  · rw [if_neg h, if_neg h]; simp

end Row

/-- A sum over the seen keys of a window is the sum over the seen keys of the whole: key `x` of the window is key `j` of the
    whole when `x + a = j + b`. -/
theorem window_sum {M : Type} [AddCommMonoid M] {n N a b : ℕ} (B : Fin n → Prop) (P : Fin N → Prop) [DecidablePred B]
    [DecidablePred P] (f : Fin n → M) (g : Fin N → M)
    (hB : ∀ x, B x → ∃ j, P j ∧ x.val + a = j.val + b) (hP : ∀ j, P j → ∃ x, B x ∧ x.val + a = j.val + b)
    (hf : ∀ x j, B x → x.val + a = j.val + b → f x = g j) :
    (∑ x, if B x then f x else 0) = ∑ j, if P j then g j else 0 := by
  rw [← Finset.sum_filter, ← Finset.sum_filter]
  have hB' : ∀ x ∈ Finset.univ.filter B, ∃ j, P j ∧ x.val + a = j.val + b := fun x hx => hB x (Finset.mem_filter.1 hx).2
  refine Finset.sum_bij (fun x hx => Classical.choose (hB' x hx)) (fun x hx => ?_) (fun x hx y hy e => ?_) (fun j hj => ?_)
    (fun x hx => ?_)
  · exact Finset.mem_filter.2 ⟨Finset.mem_univ _, (Classical.choose_spec (hB' x hx)).1⟩
  · have ex := (Classical.choose_spec (hB' x hx)).2
    have ey := (Classical.choose_spec (hB' y hy)).2
    have e' := congrArg Fin.val e
    exact Fin.ext (by omega)
  · obtain ⟨x, hx, ex⟩ := hP j (Finset.mem_filter.1 hj).2
    have hm : x ∈ Finset.univ.filter B := Finset.mem_filter.2 ⟨Finset.mem_univ _, hx⟩
    refine ⟨x, hm, Fin.ext ?_⟩
    have ey := (Classical.choose_spec (hB' x hm)).2
    omega
  · exact hf x _ (Finset.mem_filter.1 hx).2 (Classical.choose_spec (hB' x hx)).2

/-- The row over a window is the row over all keys. -/
theorem row_window {n N a b : ℕ} {r : Fin n → ℝ} {R : Fin N → ℝ} {B : Fin n → Prop} {P : Fin N → Prop} [DecidablePred B]
    [DecidablePred P] {v : Fin n → EReal} {V : Fin N → EReal}
    (hB : ∀ x, B x → ∃ j, P j ∧ x.val + a = j.val + b) (hP : ∀ j, P j → ∃ x, B x ∧ x.val + a = j.val + b)
    (hr : ∀ x j, B x → x.val + a = j.val + b → r x = R j) (hv : ∀ x j, B x → x.val + a = j.val + b → v x = V j) :
    row r B v = row R P V := by
  have ht : total r B = total R P := window_sum B P _ _ hB hP fun x j h e => by rw [hr x j h e]
  unfold row
  exact window_sum B P _ _ hB hP fun x j h e => by rw [hr x j h e, hv x j h e, ht]

end Cert.Attention
-- ==== Proof.Attention.lean ====
/-
  What the problem asks for, element by element, at real activations, query weights and keys: every query's row of softmax over
  the keys at most 128 places away, head by head, then the output projection. Values and output weights are extended reals.
-/
module

public import proofs.«01_k».proof.Proof.Softmax

@[expose] public section

noncomputable section

namespace Cert.Attention

open Idealize.ShloMosaic

/-- Key `j` is near query `i`. -/
def near (i j : Fin 4096) : Prop := i.val ≤ j.val + 128 ∧ j.val ≤ i.val + 128

instance (i : Fin 4096) : DecidablePred (near i) := fun j => by unfold near; infer_instance

/-- The arrays, and the scale of the scores. -/
structure Data where
  x : Fin 4096 → Fin 1024 → ℝ
  wq : Fin 1024 → Fin 1024 → ℝ
  k : Fin 4096 → Fin 8 → Fin 128 → ℝ
  v : Fin 4096 → Fin 8 → Fin 128 → EReal
  wo : Fin 1024 → Fin 1024 → EReal
  scale : ℝ

namespace Data
variable (A : Data)

/-- The query of head `h`, unscaled. -/
def query (i : Fin 4096) (h : Fin 8) (d : Fin 128) : ℝ := ∑ e, A.x i e * A.wq e ⟨h.val * 128 + d.val, by omega⟩

/-- The score of key `j` for query `i`. -/
def score (h : Fin 8) (i j : Fin 4096) : ℝ := (∑ d, A.query i h d * A.k j h d) * A.scale

/-- The context of query `i`. -/
def context (i : Fin 4096) (h : Fin 8) (d : Fin 128) : EReal := row (A.score h i) (near i) fun j => A.v j h d

/-- The result. -/
def output (i : Fin 4096) (n : Fin 1024) : EReal :=
  ∑ x : Fin 1024, A.context i ⟨x.val / 128, by omega⟩ ⟨x.val % 128, by omega⟩ * A.wo x n

/-- A query sees itself. -/
theorem near_self (i : Fin 4096) : ∃ j, near i j := ⟨i, by unfold near; omega⟩

/-- The query and the score from extended reals that are these reals. -/
theorem query_coe (i : Fin 4096) (h : Fin 8) (d : Fin 128) :
    (∑ e, (A.x i e : EReal) * (A.wq e ⟨h.val * 128 + d.val, by omega⟩ : EReal)) = (A.query i h d : EReal) := by
  simp only [← EReal.coe_mul]
  exact sum_coe _ _

theorem score_coe (h : Fin 8) (i j : Fin 4096) :
    (∑ d, (A.query i h d : EReal) * (A.k j h d : EReal)) * (A.scale : EReal) = (A.score h i j : EReal) := by
  simp only [← EReal.coe_mul]
  rw [sum_coe, ← EReal.coe_mul]
  rfl

/-- The score with the scale taken into the query. -/
theorem score_scaled (h : Fin 8) (i j : Fin 4096) :
    (∑ d, ((A.query i h d : EReal) * (A.scale : EReal)) * (A.k j h d : EReal)) = (A.score h i j : EReal) := by
  simp only [← EReal.coe_mul]
  rw [sum_coe]
  refine congrArg _ ?_
  unfold score
  rw [Finset.sum_mul]
  exact Finset.sum_congr rfl fun d _ => by ring

end Data

end Cert.Attention
-- ==== Proof.Mask.lean ====
/-
  Which keys of its window a query of a chunk sees: the band of 128 keys on each side, cut where the sequence ends. The bias that
  the kernel adds to the scores is zero on those keys and minus infinity on the others.
-/
module

public import proofs.«01_k».proof.Proof.Values
public import proofs.«01_k».proof.Proof.Gen.KernelIdeal.Skeleton
public import Idealize.ShloMosaic.Lib.Pointwise
public import Idealize.ShloMosaic.PureOps.Ideal.Laws
public import Idealize.ShloMosaic.PureOps.IdealRules
public import Idealize.ShloMosaic.Lib.Affine

@[expose] public section

set_option maxRecDepth 16384

noncomputable section

namespace Cert.KernelIdeal.Halo

open Cert.KernelIdeal Cert.KernelIdeal.Gen Cert.KernelIdeal.Facts
open Idealize.ShloMosaic

/-! ## Small words -/

theorem toInt_word (a : ℕ) (ha : a < 2 ^ 30) : (BitVec.ofNat 32 a).toInt = a := by
  rw [BitVec.toInt_eq_toNat_cond, BitVec.toNat_ofNat, Nat.mod_eq_of_lt (by omega), if_pos (by omega)]

theorem toInt_sub_word (a b : ℕ) (ha : a < 2 ^ 30) (hb : b < 2 ^ 30) :
    (IntOp.subi (BitVec.ofNat 32 a) (BitVec.ofNat 32 b)).toInt = (a : Int) - b := by
  change (BitVec.ofNat 32 a - BitVec.ofNat 32 b).toInt = _
  rw [BitVec.toInt_sub, toInt_word a ha, toInt_word b hb]
  simp only [Int.bmod]
  omega

theorem toInt_add_word (z : Int) (a : ℕ) (h0 : -2 ^ 30 ≤ z) (h1 : z < 2 ^ 30) (ha : a < 2 ^ 30) :
    (IntOp.addi (BitVec.ofInt 32 z) (BitVec.ofNat 32 a)).toInt = z + a := by
  change (BitVec.ofInt 32 z + BitVec.ofNat 32 a).toInt = _
  rw [BitVec.toInt_add, BitVec.toInt_ofInt, toInt_word a ha]
  simp only [Int.bmod]
  omega

/-! ## The keys seen -/

/-- Query `i` of device `c`'s chunk `t` sees key `x` of its window. -/
def seen (c : Dev nD) (t : Fin 4) (i : Fin 256) (x : Fin 512) : Prop :=
  (i.val ≤ x.val ∧ x.val ≤ i.val + 256) ∧ 128 ≤ 1024 * c.val + 256 * t.val + x.val ∧ 1024 * c.val + 256 * t.val + x.val < 4224

instance (c : Dev nD) (t : Fin 4) (i : Fin 256) : DecidablePred (seen c t i) := fun x => by unfold seen; infer_instance

/-- Where chunk 0 of device `c` starts, as a word; and chunk 3. -/
theorem start_0 : ∀ c : Dev nD, Scalar.addi (Scalar.subi (Scalar.muli (pos c) 1024#32) 128#32) 0#32 = BitVec.ofInt 32 (1024 * c.val - 128) := by
  decide +kernel
theorem start_3 : ∀ c : Dev nD, Scalar.addi (Scalar.subi (Scalar.muli (pos c) 1024#32) 128#32) 768#32 = BitVec.ofInt 32 (1024 * c.val + 640) := by
  decide +kernel

theorem mask_bot : (Named.named κ "mask" 0xCE6E6B28#32 : Ideal .f32) = (⊥ : EReal) :=
  IdealRules.named_const.ideal_named_scalar _ _ _ _ rfl

theorem select_iff {p : Prop} [Decidable p] {b : BitVec 1} (h : b = 1#1 ↔ p) (x y : EReal) :
    Scalar.select b x y = if p then x else y := by
  by_cases hp : p
  · rw [if_pos hp, h.2 hp]; rfl
  · rw [if_neg hp]
    rcases BitVec.eq_zero_or_eq_one b with rfl | rfl
    · rfl
    · exact absurd (h.1 rfl) hp

theorem band_iff (i : Fin 256) (x : Fin 512) :
    IntOp.andi (IntOp.cmpi CmpIPredicate.sge (IntOp.subi (BitVec.ofNat 32 x.val) (BitVec.ofNat 32 i.val)) 0#32)
      (IntOp.cmpi CmpIPredicate.sle (IntOp.subi (BitVec.ofNat 32 x.val) (BitVec.ofNat 32 i.val)) 256#32) = 1#1
      ↔ i.val ≤ x.val ∧ x.val ≤ i.val + 256 := by
  rw [IntOp.andi_eq_one, IntOp.cmpi_sge, IntOp.cmpi_sle, toInt_sub_word _ _ (by omega) (by omega)]
  have e0 : (0#32).toInt = 0 := by decide
  have e1 : (256#32).toInt = 256 := by decide
  rw [e0, e1]
  omega

theorem range_iff (z : Int) (x : Fin 512) (h0 : -2 ^ 20 ≤ z) (h1 : z < 2 ^ 20) :
    IntOp.andi (IntOp.cmpi CmpIPredicate.sge (IntOp.addi (BitVec.ofInt 32 z) (BitVec.ofNat 32 x.val)) 0#32)
      (IntOp.cmpi CmpIPredicate.slt (IntOp.addi (BitVec.ofInt 32 z) (BitVec.ofNat 32 x.val)) 4096#32) = 1#1
      ↔ 0 ≤ z + x.val ∧ z + x.val < 4096 := by
  rw [IntOp.andi_eq_one, IntOp.cmpi_sge, IntOp.cmpi_slt, toInt_add_word _ _ (by omega) (by omega) (by omega)]
  have e0 : (0#32).toInt = 0 := by decide
  have e1 : (4096#32).toInt = 4096 := by decide
  rw [e0, e1]

theorem inner_bias (i : Fin 256) (x : Fin 512) (p : Prop) [Decidable p] (hp : (i.val ≤ x.val ∧ x.val ≤ i.val + 256) ↔ p) :
    (k1_pay4 (F := Ideal) (ix2 i x) : EReal) = if p then 0 else ⊥ := by
  pointwise [k1_pay4, k1_pay3]
  rw [mask_bot]
  exact select_iff ((band_iff i x).trans hp) _ _

theorem first_bias (c : Dev nD) (i : Fin 256) (x : Fin 512) :
    (bias (F := Ideal) (pos c) 0 (ix2 i x) : EReal) = if seen c 0 i x then 0 else ⊥ := by
  have hc : c.val < 4 := c.isLt
  rw [← bias_0]
  pointwise [k1_pay30, k1_pay29, k1_pay3]
  rw [mask_bot, start_0 c]
  refine select_iff ?_ _ _
  rw [IntOp.andi_eq_one, band_iff, range_iff _ _ (by omega) (by omega)]
  unfold seen
  have e : ((0 : Fin 4) : ℕ) = 0 := rfl
  rw [e]
  omega

theorem last_bias (c : Dev nD) (i : Fin 256) (x : Fin 512) :
    (bias (F := Ideal) (pos c) 3 (ix2 i x) : EReal) = if seen c 3 i x then 0 else ⊥ := by
  have hc : c.val < 4 := c.isLt
  rw [← bias_3]
  pointwise [k1_pay43, k1_pay3]
  rw [mask_bot, start_3 c]
  refine select_iff ?_ _ _
  rw [IntOp.andi_eq_one, band_iff, range_iff _ _ (by omega) (by omega)]
  unfold seen
  have e : ((3 : Fin 4) : ℕ) = 3 := rfl
  rw [e]
  omega

theorem bias_apply (c : Dev nD) (t : Fin 4) (i : Fin 256) (x : Fin 512) :
    (bias (F := Ideal) (pos c) t (ix2 i x) : EReal) = if seen c t i x then 0 else ⊥ := by
  have hc : c.val < 4 := c.isLt
  match t with
  | 0 => exact first_bias c i x
  | 1 =>
    rw [← bias_1]
    refine inner_bias i x _ ?_
    unfold seen
    have e : ((1 : Fin 4) : ℕ) = 1 := rfl
    rw [e]
    omega
  | 2 =>
    rw [← bias_2]
    refine inner_bias i x _ ?_
    unfold seen
    have e : ((2 : Fin 4) : ℕ) = 2 := rfl
    rw [e]
    omega
  | 3 => exact last_bias c i x

end Cert.KernelIdeal.Halo
-- ==== Proof.Entries.lean ====
/-
  The kernel's result, element by element, from its operands: each tile of contexts is a weighted mean of values, and the
  result is their projection.
-/
module

public import proofs.«01_k».proof.Proof.Attention
public import proofs.«01_k».proof.Proof.Mask

@[expose] public section

set_option maxRecDepth 16384

noncomputable section

namespace Cert.KernelIdeal.Halo

open Cert.KernelIdeal Cert.KernelIdeal.Gen Cert.KernelIdeal.Facts
open Idealize.ShloMosaic Cert.Attention

theorem pay6_apply (b : FVec Ideal S256x512 .bf16) (q : FVec Ideal S256x128 .bf16) (k v : Vec Ideal S512x128 .bf16) (i : Fin 256)
    (d : Fin 128) :
    (k1_pay6 b q k v (ix2 i d) : EReal)
      = (∑ x : Fin 512, Ideal.exp ((∑ e : Fin 128, (q (ix2 i e) : EReal) * k (ix2 x e)) + b (ix2 i x)) * (v (ix2 x d) : EReal))
        * Ideal.div 1 (∑ x : Fin 512, Ideal.exp ((∑ e : Fin 128, (q (ix2 i e) : EReal) * k (ix2 x e)) + b (ix2 i x))) := by
  unfold k1_pay6
  pointwise

/-- A query of a chunk sees the key in the middle of its band. -/
theorem seen_self (c : Dev nD) (t : Fin 4) (i : Fin 256) : ∃ x, seen c t i x := by
  refine ⟨⟨i.val + 128, by omega⟩, ?_⟩
  have hc : c.val < 4 := c.isLt
  unfold seen
  dsimp only
  omega

/-- A tile's element, where the scores are real. -/
theorem headTile_apply (c : Dev nD) (q : S1024x1024.Idx → Elt Ideal .bf16) (k v : S1280x1024.Idx → Elt Ideal .bf16) (t : Fin 4) (h : Fin 8)
    (i : Fin 256) (d : Fin 128) (r : Fin 512 → ℝ)
    (hr : ∀ x : Fin 512, (∑ e : Fin 128, (qTile q t h (ix2 i e) : EReal) * kTile k t h (ix2 x e)) = (r x : EReal)) :
    (headTile (pos c) q k v t h (ix2 i d) : EReal) = row r (seen c t i) fun x => kTile v t h (ix2 x d) := by
  unfold headTile
  rw [pay6_apply]
  simp only [hr, bias_apply]
  exact window_row r (seen c t i) _ (seen_self c t i)

/-- The projected queries. -/
theorem query_apply (x w : S1024x1024.Idx → Elt Ideal .bf16) (i j : Fin 1024) :
    (k0_pay1 x w (ix2 i j) : EReal) = (∑ e : Fin 1024, (x (ix2 i e) : EReal) * w (ix2 e j)) * Ideal.ofBits .f32 0x3DB504F3#32 := by
  unfold k0_pay1
  pointwise

/-- The result from the contexts. -/
theorem project_apply (x w : S1024x1024.Idx → Elt Ideal .bf16) (i j : Fin 1024) :
    (k1_pay1 (k1_pay56 x w) (ix3 0 i j) : EReal) = ∑ e : Fin 1024, (x (ix2 i e) : EReal) * w (ix2 e j) := by
  unfold k1_pay1 k1_pay56
  pointwise

end Cert.KernelIdeal.Halo
-- ==== Proof.Equation.lean ====
/-
  A device's result is its rows of the attention: the windows of its queries, over its own keys and its neighbours', hold
  every key that the query sees.
-/
module

public import proofs.«01_k».proof.Proof.Blocks
public import proofs.«01_k».proof.Proof.Entries

@[expose] public section

set_option maxRecDepth 16384

noncomputable section

namespace Cert.KernelIdeal.Halo

open Cert.KernelIdeal Cert.KernelIdeal.Gen Cert.KernelIdeal.Facts
open Idealize.ShloMosaic Idealize.ShloMosaic.TcCoe Cert.Attention

/-- A column of the heads side by side is a head and a column of it. -/
theorem head_col (h : Fin 8) (d : Fin 128) (x : Fin 1024) (e : x.val = 128 * h.val + d.val) :
    (⟨x.val / 128, by omega⟩ : Fin 8) = h ∧ (⟨x.val % 128, by omega⟩ : Fin 128) = d :=
  ⟨Fin.ext (by show x.val / 128 = h.val; omega), Fin.ext (by show x.val % 128 = d.val; omega)⟩

/-- Row `i` of device `c`, in the whole array. -/
abbrev rowOf (c : Dev nD) (i : Fin 1024) : Fin 4096 := ⟨1024 * c.val + i.val, by have hc : c.val < 4 := c.isLt; omega⟩

variable (m : (ℓ : Loc nD τ sig) → Buf (Elt Ideal) ℓ) (c : Dev nD) (A : Data)

/-- The window's elements are rows of the whole array's head. -/
theorem window_at {α : Type} (X : Dev nD → S1024x1024.Idx → α) (G : Fin 4096 → Fin 8 → Fin 128 → α)
    (hX : ∀ (c : Dev nD) (i j : Fin 1024), X c (ix2 i j) = G (rowOf c i) ⟨j.val / 128, by omega⟩ ⟨j.val % 128, by omega⟩)
    (t : Fin 4) (h : Fin 8) (x : Fin 512) (d : Fin 128) :
    full X c (ix2 (n0 := 1280) (n1 := 1024) ⟨256 * t.val + x.val, by omega⟩ ⟨128 * h.val + d.val, by omega⟩)
      = G (wrap c (256 * t.val + x.val)) h d := by
  rw [full_at c X (fun i j => G i ⟨j.val / 128, by omega⟩ ⟨j.val % 128, by omega⟩) hX]
  obtain ⟨e1, e2⟩ := head_col h d ⟨128 * h.val + d.val, by omega⟩ rfl
  show G _ ⟨(128 * h.val + d.val) / 128, _⟩ ⟨(128 * h.val + d.val) % 128, _⟩ = _
  exact congrArg₂ (G (wrap c (256 * t.val + x.val))) e1 e2

theorem res_apply
    (hx : ∀ (c : Dev nD) i e, (m ((c.tc : Thread nD τ).loc main_arg0) (ix3 0 i e) : EReal) = (A.x (rowOf c i) e : EReal))
    (hw : ∀ (c : Dev nD) i e, (m ((c.tc : Thread nD τ).loc main_arg1) (ix2 i e) : EReal) = (A.wq i e : EReal))
    (hk : ∀ (c : Dev nD) i h d, (m ((c.tc : Thread nD τ).loc main_arg2) (ix4 0 i h d) : EReal) = (A.k (rowOf c i) h d : EReal))
    (hv : ∀ (c : Dev nD) i h d, (m ((c.tc : Thread nD τ).loc main_arg3) (ix4 0 i h d) : EReal) = A.v (rowOf c i) h d)
    (ho : ∀ (c : Dev nD) x n, (m ((c.tc : Thread nD τ).loc main_arg4) (ix2 x n) : EReal) = A.wo x n)
    (hs : (Ideal.ofBits .f32 0x3DB504F3#32 : EReal) = (A.scale : EReal)) (a n : Fin 1024) :
    (res m c (ix3 0 a n) : EReal) = A.output (rowOf c a) n := by
  have hc : c.val < 4 := c.isLt
  unfold res result
  rw [project_apply]
  unfold Data.output
  refine Finset.sum_congr rfl fun x _ => ?_
  rw [a4_at, ho]
  refine congrArg (· * A.wo x n) ?_
  obtain ⟨t, i, et⟩ : ∃ (t : Fin 4) (i : Fin 256), a.val = 256 * t.val + i.val :=
    ⟨⟨a.val / 256, by omega⟩, ⟨a.val % 256, by omega⟩, by dsimp only; omega⟩
  obtain ⟨h, d, eh⟩ : ∃ (h : Fin 8) (d : Fin 128), x.val = 128 * h.val + d.val :=
    ⟨⟨x.val / 128, by omega⟩, ⟨x.val % 128, by omega⟩, by dsimp only; omega⟩
  obtain ⟨e1, e2⟩ := head_col h d x eh
  rw [e1, e2, ctx_at _ _ _ _ t h (ix2 a x) (ix2 i d) et eh]
  have hK : ∀ (X : Fin 512) (e : Fin 128), (kTile (full (keys m) c) t h (ix2 X e) : EReal) = (A.k (wrap c (256 * t.val + X.val)) h e : EReal) :=
    fun X e => window_at c (keys m) (fun j h d => (A.k j h d : EReal)) (fun c i j => (v2_at m c i j).trans (hk c i _ _)) t h X e
  have hV : ∀ (X : Fin 512), (kTile (full (vals m) c) t h (ix2 X d) : EReal) = A.v (wrap c (256 * t.val + X.val)) h d :=
    fun X => window_at c (vals m) A.v (fun c i j => (v3_at m c i j).trans (hv c i _ _)) t h X d
  have hQ : ∀ e : Fin 128, (qTile (qry m c) t h (ix2 i e) : EReal) = (A.query (rowOf c a) h e : EReal) * (A.scale : EReal) := by
    intro e
    have ea : (⟨256 * t.val + i.val, by omega⟩ : Fin 1024) = a := Fin.ext et.symm
    have eb : (⟨128 * h.val + e.val, by omega⟩ : Fin 1024) = ⟨h.val * 128 + e.val, by omega⟩ := Fin.ext (by dsimp only; omega)
    have e0 : qTile (qry m c) t h (ix2 i e) = qry m c (ix2 a ⟨h.val * 128 + e.val, by omega⟩) :=
      congrArg₂ (fun p q => qry m c (ix2 p q)) ea eb
    rw [e0]
    unfold qry
    rw [query_apply, hs, ← A.query_coe (rowOf c a) h e]
    refine congrArg (· * (A.scale : EReal)) (Finset.sum_congr rfl fun j _ => ?_)
    rw [v1_at, a1_at, hx, hw]
  rw [headTile_apply c _ _ _ t h i d (fun X => A.score h (rowOf c a) (wrap c (256 * t.val + X.val))) (fun X => by
    simp only [hQ, hK]
    exact A.score_scaled h _ _)]
  simp only [hV]
  have hwr : ∀ (X : Fin 512) (j : Fin 4096), X.val + (1024 * c.val + 256 * t.val) = j.val + 128 → wrap c (256 * t.val + X.val) = j :=
    fun X j e => Fin.ext (by show (1024 * c.val + (256 * t.val + X.val) + 3968) % 4096 = j.val; omega)
  unfold Data.context
  refine row_window (a := 1024 * c.val + 256 * t.val) (b := 128) ?_ ?_ ?_ ?_
  · intro X hX
    unfold seen at hX
    refine ⟨⟨X.val + (1024 * c.val + 256 * t.val) - 128, by omega⟩, ?_, ?_⟩
    · unfold near
      dsimp only
      omega
    · dsimp only
      omega
  · intro j hj
    unfold near at hj
    dsimp only at hj
    refine ⟨⟨j.val + 128 - (1024 * c.val + 256 * t.val), by omega⟩, ?_, ?_⟩
    · unfold seen
      dsimp only
      omega
    · dsimp only
      omega
  · intro X j _ e
    rw [hwr X j e]
  · intro X j _ e
    rw [hwr X j e]

end Cert.KernelIdeal.Halo
-- ==== Proof.Reference.lean ====
/-
  The reference's result, element by element: it is the attention that the problem asks for.
-/
module

public import proofs.«01_k».proof.Proof.Attention
public import proofs.«01_k».proof.Proof.Gen.ReferenceIdeal.Run
public import Idealize.ShloMosaic.Lib.Pointwise
public import Idealize.ShloMosaic.Lib.Affine
public import Idealize.ShloMosaic.Lib.Routing.OpsOrder
public import Idealize.ShloMosaic.Lib.Tactic.CleanTypes
public import Idealize.ShloMosaic.PureOps.Ideal.Laws

@[expose] public section

set_option maxRecDepth 16384

noncomputable section

namespace Cert.ReferenceIdeal.Halo

open Cert.ReferenceIdeal Cert.ReferenceIdeal.Gen Cert.ReferenceIdeal.Facts Cert.ReferenceIdeal.Value
open Idealize.ShloMosaic Cert.Attention

/-- The bit that says that a key is near. -/
abbrev nearBit (i j : Fin 4096) : BitVec 1 :=
  IntOp.cmpi CmpIPredicate.sle (IntOp.absi (IntOp.subi (BitVec.ofNat 32 i.val) (BitVec.ofNat 32 j.val))) 128#32

theorem nearBit_iff (i j : Fin 4096) : nearBit i j = 1#1 ↔ near i j := by
  unfold nearBit near
  rw [IntOp.cmpi_sle]
  have hi : i.val < 4096 := i.isLt
  have hj : j.val < 4096 := j.isLt
  have e1 : (128#32).toInt = 128 := by decide
  have hs : (IntOp.subi (BitVec.ofNat 32 i.val) (BitVec.ofNat 32 j.val)).toInt = (i.val : Int) - j.val := by
    have ei : (BitVec.ofNat 32 i.val).toInt = i.val := by
      rw [BitVec.toInt_eq_toNat_cond, BitVec.toNat_ofNat, Nat.mod_eq_of_lt (by omega), if_pos (by omega)]
    have ej : (BitVec.ofNat 32 j.val).toInt = j.val := by
      rw [BitVec.toInt_eq_toNat_cond, BitVec.toNat_ofNat, Nat.mod_eq_of_lt (by omega), if_pos (by omega)]
    change (BitVec.ofNat 32 i.val - BitVec.ofNat 32 j.val).toInt = _
    rw [BitVec.toInt_sub, ei, ej]
    simp only [Int.bmod]
    omega
  have ha : (IntOp.absi (IntOp.subi (BitVec.ofNat 32 i.val) (BitVec.ofNat 32 j.val))).toInt = |(i.val : Int) - j.val| := by
    generalize IntOp.subi (BitVec.ofNat 32 i.val) (BitVec.ofNat 32 j.val) = w at hs
    unfold IntOp.absi
    rw [BitVec.msb_eq_toInt, hs]
    by_cases h : (i.val : Int) - j.val < 0
    · rw [if_pos (decide_eq_true h), BitVec.toInt_neg, hs, abs_of_neg h]
      simp only [Int.bmod]
      omega
    · rw [if_neg (by simpa using h), hs, abs_of_nonneg (not_lt.1 h)]
  rw [ha, e1, abs_le]
  omega

theorem select_near (i j : Fin 4096) (x y : EReal) : Scalar.select (nearBit i j) x y = if near i j then x else y := by
  by_cases hp : near i j
  · rw [if_pos hp, (nearBit_iff i j).2 hp]; rfl
  · rw [if_neg hp]
    rcases BitVec.eq_zero_or_eq_one (nearBit i j) with h | h
    · rw [h]; rfl
    · exact absurd ((nearBit_iff i j).1 h) hp

/-- Every query sees a key. -/
theorem keep (i : Fin 4096) : Finset.fold IntOp.ori (0#1) (fun j => nearBit i j) Finset.univ = 1#1 := by
  rw [Routing.fold_ori]
  exact ⟨i, Finset.mem_univ _, (nearBit_iff i i).2 (by unfold near; omega)⟩

theorem select_one (x y : EReal) : Scalar.select 1#1 x y = x := by
  unfold Scalar.select
  exact if_pos rfl

theorem bits_bot : (Ideal.ofBits .f32 0xFF800000#32 : EReal) = ⊥ := by
  simp [Ideal.ofBits, Ideal.ieee]

/-! The stages of the reference, array by array. -/

/-- Which keys are near which queries. -/
def nearBits : IVec S4096x4096 1 :=
  cmpi .sle (absi (subi
    (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))
    (broadcastInDim S4096x4096 ![] bcast_S_S4096x4096 (constantI S_ 32 128#32))

/-- Which queries see a key. -/
def keepBits : IVec S4096 1 := Host.reduce IntOp.ori nearBits (constantI S_ 1 0#1) reducesTo_S4096x4096_S4096_d1 h_S_

/-- The queries, head by head. -/
def queries (x : FVec Ideal S1x4096x1024 .f32) (w : FVec Ideal S1024x1024 .f32) : FVec Ideal S1x4096x8x128 .f32 :=
  shapeCast _ (Host.dotGeneral dot_S1x4096x1024_S1024x1024_S1x4096x1024_2_0_01_1_n_n none x w) shapeCasts_S1x4096x1024_S1x4096x8x128

/-- The scores, masked. -/
def masked (q k : FVec Ideal S1x4096x8x128 .f32) : FVec Ideal S1x8x4096x4096 .f32 :=
  select (broadcastInDim S1x8x4096x4096 ![0, 1, 2, 3] bcast_S1x1x4096x4096_S1x8x4096x4096_0_1_2_3
      (broadcastInDim S1x1x4096x4096 ![2, 3] bcast_S4096x4096_S1x1x4096x4096_2_3 nearBits))
    (mulf (Host.dotGeneral dot_S1x4096x8x128_S1x4096x8x128_S1x8x4096x4096_3_3_1_1_02_02 none q k)
      (broadcastInDim S1x8x4096x4096 ![] bcast_S_S1x8x4096x4096 (constant S_ .f32 0x3DB504F3#32)))
    (broadcastInDim S1x8x4096x4096 ![] bcast_S_S1x8x4096x4096 (id (constant S_ .f32 0xFF800000#32)))

/-- The exponentials of the masked scores, each row less its maximum. -/
def expo (s : FVec Ideal S1x8x4096x4096 .f32) : FVec Ideal S1x8x4096x4096 .f32 :=
  Host.exp (subf s (broadcastInDim S1x8x4096x4096 ![0, 1, 2, 3] bcast_S1x8x4096x1_S1x8x4096x4096_0_1_2_3
    (broadcastInDim S1x8x4096x1 ![0, 1, 2] bcast_S1x8x4096_S1x8x4096x1_0_1_2
      (Host.reduce FloatOps.maximumf s (constant S_ .f32 0xFF800000#32) reducesTo_S1x8x4096x4096_S1x8x4096_d3 h_S_))))

/-- The weights of the keys. -/
def weights (g : IVec S4096 1) (e : FVec Ideal S1x8x4096x4096 .f32) : FVec Ideal S1x8x4096x4096 .f32 :=
  select (broadcastInDim S1x8x4096x4096 ![0, 1, 2, 3] bcast_S1x1x4096x1_S1x8x4096x4096_0_1_2_3
      (broadcastInDim S1x1x4096x1 ![2] bcast_S4096_S1x1x4096x1_2 g))
    (Host.divf e (broadcastInDim S1x8x4096x4096 ![0, 1, 2, 3] bcast_S1x8x4096x1_S1x8x4096x4096_0_1_2_3
      (select (broadcastInDim S1x8x4096x1 ![0, 1, 2, 3] bcast_S1x1x4096x1_S1x8x4096x1_0_1_2_3
          (broadcastInDim S1x1x4096x1 ![2] bcast_S4096_S1x1x4096x1_2 g))
        (broadcastInDim S1x8x4096x1 ![0, 1, 2] bcast_S1x8x4096_S1x8x4096x1_0_1_2
          (Host.reduceAdd e (constant S_ .f32 0x00000000#32) reducesTo_S1x8x4096x4096_S1x8x4096_d3 h_S_))
        (broadcastInDim S1x8x4096x1 ![] bcast_S_S1x8x4096x1 (id (constant S_ .f32 0x3F800000#32))))))
    (broadcastInDim S1x8x4096x4096 ![] bcast_S_S1x8x4096x4096 (id (constant S_ .f32 0x00000000#32)))

/-- The contexts, the heads side by side. -/
def contexts (v : FVec Ideal S1x4096x8x128 .f32) (p : FVec Ideal S1x8x4096x4096 .f32) : FVec Ideal S1x4096x1024 .f32 :=
  shapeCast _ (transpose S1x4096x8x128 [0, 3, 1, 2] (Host.dotGeneral dot_S1x4096x8x128_S1x8x4096x4096_S1x8x128x4096_1_3_3_2_02_01 none v p)
    transposes_S1x8x128x4096_S1x4096x8x128_0_3_1_2) shapeCasts_S1x4096x8x128_S1x4096x1024

/-- The whole result. -/
def whole (x : FVec Ideal S1x4096x1024 .bf16) (w : FVec Ideal S1024x1024 .bf16) (k v : FVec Ideal S1x4096x8x128 .bf16)
    (wo : FVec Ideal S1024x1024 .bf16) : FVec Ideal S1x4096x1024 .bf16 :=
  truncf .bf16 (Host.dotGeneral dot_S1x4096x1024_S1024x1024_S1x4096x1024_2_0_01_1_n_n none
    (contexts (extf .f32 v bitsLt_bf16_f32)
      (weights keepBits (expo (masked (queries (extf .f32 x bitsLt_bf16_f32) (extf .f32 w bitsLt_bf16_f32)) (extf .f32 k bitsLt_bf16_f32)))))
    (extf .f32 wo bitsLt_bf16_f32)) bitsLt_bf16_f32

/-- The run's result is this. -/
theorem result_eq (m : (ℓ : Loc nD τ sig) → Buf (Elt Ideal) ℓ) (c : Dev nD) :
    res_main_v40 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem nearBits_apply (i j : Fin 4096) : nearBits (ix2 i j) = nearBit i j := by
  unfold nearBits
  pointwise

theorem keepBits_apply (i : Fin 4096) : keepBits (ix1 i) = 1#1 := by
  refine Eq.trans ?_ (keep i)
  simp only [← nearBits_apply]
  unfold keepBits
  pointwise

theorem queries_apply (x : FVec Ideal S1x4096x1024 .f32) (w : FVec Ideal S1024x1024 .f32) (i : Fin 4096) (h : Fin 8) (d : Fin 128) :
    (queries x w (ix4 0 i h d) : EReal) = ∑ e : Fin 1024, (x (ix3 0 i e) : EReal) * w (ix2 e ⟨h.val * 128 + d.val, by omega⟩) := by
  unfold queries
  pointwise

theorem masked_apply (q k : FVec Ideal S1x4096x8x128 .f32) (h : Fin 8) (i j : Fin 4096) :
    (masked q k (ix4 0 h i j) : EReal)
      = if near i j then (∑ d : Fin 128, (q (ix4 0 i h d) : EReal) * k (ix4 0 j h d)) * Ideal.ofBits .f32 0x3DB504F3#32 else ⊥ := by
  refine Eq.trans ?_ (select_near i j _ _)
  rw [← bits_bot, ← nearBits_apply]
  unfold masked
  pointwise [id_eq]

theorem expo_apply (s : FVec Ideal S1x8x4096x4096 .f32) (h : Fin 8) (i j : Fin 4096) :
    (expo s (ix4 0 h i j) : EReal)
      = Ideal.exp ((s (ix4 0 h i j) : EReal) - Finset.fold max ⊥ (fun j' => (s (ix4 0 h i j') : EReal)) Finset.univ) := by
  rw [← bits_bot]
  unfold expo
  pointwise

theorem weights_apply (g : IVec S4096 1) (hg : ∀ i, g (ix1 i) = 1#1) (e : FVec Ideal S1x8x4096x4096 .f32) (h : Fin 8)
    (i j : Fin 4096) :
    (weights g e (ix4 0 h i j) : EReal) = Ideal.div (e (ix4 0 h i j)) (∑ j' : Fin 4096, (e (ix4 0 h i j') : EReal)) := by
  unfold weights
  pointwise
  rw [hg, select_one, select_one]

theorem contexts_apply (v : FVec Ideal S1x4096x8x128 .f32) (p : FVec Ideal S1x8x4096x4096 .f32) (i : Fin 4096) (x : Fin 1024) :
    (contexts v p (ix3 0 i x) : EReal) = ∑ j : Fin 4096, (v (ix4 0 j ⟨x.val / 128, by omega⟩ ⟨x.val % 128, by omega⟩) : EReal)
      * p (ix4 0 ⟨x.val / 128, by omega⟩ i j) := by
  unfold contexts
  pointwise

theorem whole_apply (x : FVec Ideal S1x4096x1024 .bf16) (w : FVec Ideal S1024x1024 .bf16) (k v : FVec Ideal S1x4096x8x128 .bf16)
    (wo : FVec Ideal S1024x1024 .bf16) (i : Fin 4096) (n : Fin 1024) :
    (whole x w k v wo (ix3 0 i n) : EReal) = ∑ e : Fin 1024, (contexts (extf .f32 v bitsLt_bf16_f32)
      (weights keepBits (expo (masked (queries (extf .f32 x bitsLt_bf16_f32) (extf .f32 w bitsLt_bf16_f32)) (extf .f32 k bitsLt_bf16_f32))))
        (ix3 0 i e) : EReal) * wo (ix2 e n) := by
  unfold whole
  generalize contexts _ _ = y
  pointwise

/-- The reference's result is the attention of the arrays that it is given. -/
theorem whole_output (A : Data) (x : FVec Ideal S1x4096x1024 .bf16) (w : FVec Ideal S1024x1024 .bf16)
    (k v : FVec Ideal S1x4096x8x128 .bf16) (wo : FVec Ideal S1024x1024 .bf16)
    (hx : ∀ i e, (x (ix3 0 i e) : EReal) = (A.x i e : EReal)) (hw : ∀ i e, (w (ix2 i e) : EReal) = (A.wq i e : EReal))
    (hk : ∀ j h d, (k (ix4 0 j h d) : EReal) = (A.k j h d : EReal)) (hv : ∀ j h d, (v (ix4 0 j h d) : EReal) = A.v j h d)
    (ho : ∀ x n, (wo (ix2 x n) : EReal) = A.wo x n) (hs : (Ideal.ofBits .f32 0x3DB504F3#32 : EReal) = (A.scale : EReal))
    (i : Fin 4096) (n : Fin 1024) : (whole x w k v wo (ix3 0 i n) : EReal) = A.output i n := by
  rw [whole_apply]
  unfold Data.output
  refine Finset.sum_congr rfl fun e _ => ?_
  rw [ho, contexts_apply]
  refine congrArg (· * A.wo e n) ?_
  have hq : ∀ i h d, (queries (extf .f32 x bitsLt_bf16_f32) (extf .f32 w bitsLt_bf16_f32) (ix4 0 i h d) : EReal) = (A.query i h d : EReal) := by
    intro i h d
    rw [queries_apply, ← A.query_coe i h d]
    refine Finset.sum_congr rfl fun e _ => ?_
    rw [← hx, ← hw]
    rfl
  generalize queries _ _ = q at hq
  have hm : ∀ h i j, (masked q (extf .f32 k bitsLt_bf16_f32) (ix4 0 h i j) : EReal) = if near i j then (A.score h i j : EReal) else ⊥ := by
    intro h i j
    rw [masked_apply, hs, ← A.score_coe h i j]
    have he : (∑ d : Fin 128, (q (ix4 0 i h d) : EReal) * extf .f32 k bitsLt_bf16_f32 (ix4 0 j h d))
        = ∑ d : Fin 128, (A.query i h d : EReal) * (A.k j h d : EReal) := by
      refine Finset.sum_congr rfl fun d _ => ?_
      rw [← hk, ← hq]
      rfl
    rw [he]
  generalize masked _ _ = s at hm
  unfold Data.context
  rw [← softmax_row _ _ _ (Data.near_self i)]
  refine Finset.sum_congr rfl fun j _ => ?_
  rw [weights_apply keepBits keepBits_apply, ← hv]
  simp only [expo_apply, hm]
  rfl

end Cert.ReferenceIdeal.Halo
-- ==== Proof.Finite.lean ====
/-
  What the precondition says: the inputs, the projection's matrix and the keys of every device are real numbers.
-/
module

public import proofs.«01_k».proof.Pre_finite_scores_KernelIdeal
public import proofs.«01_k».proof.Pre_finite_scores_ReferenceIdeal
public import Idealize.ShloMosaic.Lib.ReduceAll
public import Idealize.ShloMosaic.Lib.Affine
public import Idealize.ShloMosaic.PureOps.Ideal.Laws

@[expose] public section

noncomputable section

open Idealize.ShloMosaic

namespace Cert.Pre_finite_scores_ReferenceIdeal

/-- The side conditions of the precondition, read on the whole arrays. -/
instance facts : Facts := by constructor <;> decide

end Cert.Pre_finite_scores_ReferenceIdeal

namespace Cert.Pre_finite_scores_KernelIdeal

/-- The side conditions of the precondition, read on a device's blocks. -/
instance facts : Facts := by constructor <;> decide

/-- An extended real whose absolute value is below infinity is real. -/
theorem real_of_below (x : EReal) (h : FloatOps.cmpf .olt (max x (-x) : Ideal .f32) (Ideal.ofBits .f32 0x7F800000#32) = 1#1) :
    ∃ r : ℝ, x = (r : EReal) := by
  have ht : (Ideal.ofBits .f32 0x7F800000#32 : EReal) = ⊤ := by simp [Ideal.ofBits, Ideal.ieee]
  rw [ht] at h
  induction x using EReal.rec with
  | bot => exact absurd h (by rw [EReal.neg_bot, max_eq_right bot_le]; change ¬ Ideal.cmp .olt (⊤ : EReal) ⊤ = 1#1; simp [Ideal.cmp])
  | coe r => exact ⟨r, rfl⟩
  | top => exact absurd h (by rw [EReal.neg_top, max_eq_left bot_le]; change ¬ Ideal.cmp .olt (⊤ : EReal) ⊤ = 1#1; simp [Ideal.cmp])

variable [Facts]
open Facts

/-- Where the precondition holds, the three arrays are real. -/
theorem fn_real (x : FVec Ideal S1x1024x1024 .bf16) (w : FVec Ideal S1024x1024 .bf16) (k v : FVec Ideal S1x1024x8x128 .bf16)
    (o : FVec Ideal S1024x1024 .bf16) (h : fn x w k v o = fun _ => 1#1) :
    (∀ i, ∃ r : ℝ, (x i : EReal) = r) ∧ (∀ i, ∃ r : ℝ, (w i : EReal) = r) ∧ ∀ i, ∃ r : ℝ, (k i : EReal) = r := by
  have e := congrFun h (fun a => a.elim0)
  dsimp only [fn] at e
  obtain ⟨e1, e3⟩ := IntOp.andi_eq_one.1 e
  obtain ⟨e1, e2⟩ := IntOp.andi_eq_one.1 e1
  have hS : Subsingleton S_.Idx := ⟨fun a b => funext fun i => i.elim0⟩
  refine ⟨fun i => real_of_below _ ?_, fun i => real_of_below _ ?_, fun i => real_of_below _ ?_⟩
  · exact Host.reduce_andi_all _ _ _ _ _ e1 i
  · exact Host.reduce_andi_all _ _ _ _ _ e2 i
  · exact Host.reduce_andi_all _ _ _ _ _ e3 i

end Cert.Pre_finite_scores_KernelIdeal
-- ==== Proof.Agree.lean ====
/-
  The kernel and the reference agree: where every device holds its block of each array and the inputs, the projection's matrix
  and the keys are real, every device's result is its block of the reference's.
-/
module

public import proofs.«01_k».proof.Proof.Equation
public import proofs.«01_k».proof.Proof.Reference
public import proofs.«01_k».proof.Proof.Finite

@[expose] public section

set_option maxRecDepth 16384

noncomputable section

namespace Cert.Halo

open Idealize.ShloMosaic Cert.Attention Cert.KernelIdeal.Halo

/-- The scale of the scores is real. -/
theorem scale_real : ∃ s : ℝ, (Ideal.ofBits .f32 0x3DB504F3#32 : EReal) = (s : EReal) := by
  simp only [Ideal.ofBits]
  unfold Ideal.ieee
  simp [-EReal.coe_mul]

/-- Every row of the whole array is a row of a device. -/
theorem exists_row (J : Fin 4096) : ∃ (c : Fin 4) (i : Fin 1024), J = ⟨1024 * c.val + i.val, by omega⟩ :=
  ⟨⟨J.val / 1024, by omega⟩, ⟨J.val % 1024, by omega⟩, Fin.ext (by dsimp only; omega)⟩

theorem coe_of_real {x : EReal} (h : ∃ r : ℝ, x = (r : EReal)) : x = ((x.toReal : ℝ) : EReal) := by
  obtain ⟨r, rfl⟩ := h
  rw [EReal.toReal_coe]

/-- Every device's result is its block of the reference's. -/
theorem agree (m : (ℓ : Loc Cert.KernelIdeal.nD Cert.KernelIdeal.τ Cert.KernelIdeal.sig) → Buf (Elt Ideal) ℓ)
    (x : (⟨3, ![1, 4096, 1024]⟩ : Shape).Idx → EReal) (w : (⟨2, ![1024, 1024]⟩ : Shape).Idx → EReal)
    (k v : (⟨4, ![1, 4096, 8, 128]⟩ : Shape).Idx → EReal) (o : (⟨2, ![1024, 1024]⟩ : Shape).Idx → EReal)
    (hfin : ∀ c : Dev Cert.KernelIdeal.nD,
      (∀ i, ∃ r : ℝ, (m ((c.tc : Thread Cert.KernelIdeal.nD Cert.KernelIdeal.τ).loc Cert.KernelIdeal.main_arg0) i : EReal) = (r : EReal))
      ∧ (∀ i, ∃ r : ℝ, (m ((c.tc : Thread Cert.KernelIdeal.nD Cert.KernelIdeal.τ).loc Cert.KernelIdeal.main_arg1) i : EReal) = (r : EReal))
      ∧ ∀ i, ∃ r : ℝ, (m ((c.tc : Thread Cert.KernelIdeal.nD Cert.KernelIdeal.τ).loc Cert.KernelIdeal.main_arg2) i : EReal) = (r : EReal))
    (hagree : ∀ c : Dev Cert.KernelIdeal.nD,
      m ((c.tc : Thread Cert.KernelIdeal.nD Cert.KernelIdeal.τ).loc Cert.KernelIdeal.main_arg0)
          = Layout.block ⟨3, ![1, 1024, 1024]⟩ ⟨3, ![1, 4096, 1024]⟩ 1 4 c x
      ∧ m ((c.tc : Thread Cert.KernelIdeal.nD Cert.KernelIdeal.τ).loc Cert.KernelIdeal.main_arg1) = w
      ∧ m ((c.tc : Thread Cert.KernelIdeal.nD Cert.KernelIdeal.τ).loc Cert.KernelIdeal.main_arg2)
          = Layout.block ⟨4, ![1, 1024, 8, 128]⟩ ⟨4, ![1, 4096, 8, 128]⟩ 1 4 c k
      ∧ m ((c.tc : Thread Cert.KernelIdeal.nD Cert.KernelIdeal.τ).loc Cert.KernelIdeal.main_arg3)
          = Layout.block ⟨4, ![1, 1024, 8, 128]⟩ ⟨4, ![1, 4096, 8, 128]⟩ 1 4 c v
      ∧ m ((c.tc : Thread Cert.KernelIdeal.nD Cert.KernelIdeal.τ).loc Cert.KernelIdeal.main_arg4) = o)
    (c : Dev Cert.KernelIdeal.nD) :
    (res m c : (⟨3, ![1, 1024, 1024]⟩ : Shape).Idx → EReal)
      = Layout.block ⟨3, ![1, 1024, 1024]⟩ ⟨3, ![1, 4096, 1024]⟩ 1 4 c (Cert.ReferenceIdeal.Halo.whole x w k v o) := by
  obtain ⟨s, hs⟩ := scale_real
  let A : Data :=
    { x := fun i e => (x (ix3 0 i e)).toReal
      wq := fun i e => (w (ix2 i e)).toReal
      k := fun j h d => (k (ix4 0 j h d)).toReal
      v := fun j h d => v (ix4 0 j h d)
      wo := fun i n => o (ix2 i n)
      scale := s }
  have b0 : ∀ (c : Dev Cert.KernelIdeal.nD) (i e : Fin 1024),
      (m ((c.tc : Thread Cert.KernelIdeal.nD Cert.KernelIdeal.τ).loc Cert.KernelIdeal.main_arg0) (ix3 0 i e) : EReal) = x (ix3 0 (rowOf c i) e) :=
    fun c i e => (congrFun (hagree c).1 _).trans (block3_at x c i e)
  have b2 : ∀ (c : Dev Cert.KernelIdeal.nD) (i : Fin 1024) (h : Fin 8) (d : Fin 128),
      (m ((c.tc : Thread Cert.KernelIdeal.nD Cert.KernelIdeal.τ).loc Cert.KernelIdeal.main_arg2) (ix4 0 i h d) : EReal) = k (ix4 0 (rowOf c i) h d) :=
    fun c i h d => (congrFun (hagree c).2.2.1 _).trans (block4_at k c i h d)
  have b3 : ∀ (c : Dev Cert.KernelIdeal.nD) (i : Fin 1024) (h : Fin 8) (d : Fin 128),
      (m ((c.tc : Thread Cert.KernelIdeal.nD Cert.KernelIdeal.τ).loc Cert.KernelIdeal.main_arg3) (ix4 0 i h d) : EReal) = v (ix4 0 (rowOf c i) h d) :=
    fun c i h d => (congrFun (hagree c).2.2.2.1 _).trans (block4_at v c i h d)
  have hx : ∀ i e, (x (ix3 0 i e) : EReal) = (A.x i e : EReal) := fun J e => by
    obtain ⟨c, i, rfl⟩ := exists_row J
    obtain ⟨r, hr⟩ := (hfin c).1 (ix3 0 i e)
    exact coe_of_real ⟨r, (b0 c i e).symm.trans hr⟩
  have hw : ∀ i e, (w (ix2 i e) : EReal) = (A.wq i e : EReal) := fun i e => by
    obtain ⟨r, hr⟩ := (hfin 0).2.1 (ix2 i e)
    exact coe_of_real ⟨r, (congrFun (hagree 0).2.1 _).symm.trans hr⟩
  have hk : ∀ j h d, (k (ix4 0 j h d) : EReal) = (A.k j h d : EReal) := fun J h d => by
    obtain ⟨c, i, rfl⟩ := exists_row J
    obtain ⟨r, hr⟩ := (hfin c).2.2 (ix4 0 i h d)
    exact coe_of_real ⟨r, (b2 c i h d).symm.trans hr⟩
  funext j
  obtain ⟨a, n, rfl⟩ : ∃ a n : Fin 1024, j = ix3 0 a n := ⟨j 1, j 2, by
    funext b
    match b with
    | ⟨0, _⟩ => exact Subsingleton.elim (α := Fin 1) _ _
    | ⟨1, _⟩ => rfl
    | ⟨2, _⟩ => rfl⟩
  rw [block3_at]
  refine (res_apply m c A (fun c i e => (b0 c i e).trans (hx _ _)) (fun c i e => (congrFun (hagree c).2.1 _).trans (hw i e))
    (fun c i h d => (b2 c i h d).trans (hk _ _ _)) b3 (fun c x n => congrFun (hagree c).2.2.2.2 _) hs a n).trans ?_
  exact (Cert.ReferenceIdeal.Halo.whole_output A x w k v o hx hw hk (fun _ _ _ => rfl) (fun _ _ => rfl) hs _ n).symm

end Cert.Halo
-- ==== Proof.lean ====
/-
  The claim, assembled: the frames of the kernel, of its idealization and of the reference; that the idealization names the mask
  and changes nothing else; that the idealization computes the reference where the precondition holds.
-/
module

public import proofs.«01_k».proof.Defs
public import proofs.«01_k».proof.Proof.Launch
public import proofs.«01_k».proof.Proof.Kernel.Launch
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.Kernel.Halo.run_main (F := Bits) m g)

theorem frame_ideal : Cert.quiescent_KernelIdeal := fun m g _ =>
  (θ_run Cert.KernelIdeal.defs _ _).mono (fun _ h => ⟨fun c => (h.1 c).2, h.2⟩) (Cert.KernelIdeal.Halo.run_main (F := Ideal) m g)

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xCE6E6B28#32 ⊥ rfl

/-- The frames again, where the precondition holds. -/
theorem frame_ideal_pre : Cert.quiescent_KernelIdeal_pre_finite_scores_KernelIdeal := fun m g _ => frame_ideal m g trivial

theorem frame_reference_pre : Cert.quiescent_ReferenceIdeal_pre_finite_scores_ReferenceIdeal := fun m g _ => frame_reference m g trivial

/-- The idealization leaves on every device its block of what the reference leaves. -/
theorem algebraic : Cert.algebraic_KernelIdeal_ReferenceIdeal_pre_finite_scores_KernelIdeal := by
  intro m g m' g' hpre hagree
  refine ⟨Cert.ReferenceIdeal.Value.res_main_v40 m' 0, ?_, ?_⟩
  · refine (θ_run Cert.KernelIdeal.defs _ _).mono (fun _ h c => ⟨(h.1 c).1.trans ?_, (h.1 c).2⟩)
      (Cert.KernelIdeal.Halo.run_main (F := Ideal) m g)
    exact Cert.Halo.agree m _ _ _ _ _ (fun c => Cert.Pre_finite_scores_KernelIdeal.fn_real _ _ _ _ _ (hpre c)) hagree c
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_scores_KernelIdeal.facts,
    Cert.Pre_finite_scores_ReferenceIdeal.facts, frame_kernel, frame_ideal, frame_ideal_pre, frame_reference, frame_reference_pre,
    preserves, algebraic⟩

end Cert.Proof

end
